-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8192x1024 : Shape := ⟨2, ![8192, 1024]⟩
abbrev S5 : Shape := ⟨1, ![5]⟩
abbrev S1 : Shape := ⟨1, ![1]⟩
abbrev S_ : Shape := ⟨0, ![]⟩
abbrev S1024x1024 : Shape := ⟨2, ![1024, 1024]⟩
abbrev S512x1024 : Shape := ⟨2, ![512, 1024]⟩
abbrev S256x1024 : Shape := ⟨2, ![256, 1024]⟩
abbrev S320x1024 : Shape := ⟨2, ![320, 1024]⟩
abbrev S192x1024 : Shape := ⟨2, ![192, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .local _ .vmem, ⟨0, _⟩ => ⟨S8192x1024, .bf16⟩
  | .local _ .vmem, ⟨1, _⟩ => ⟨S4096x1024, .bf16⟩
  | _, _ => ⟨S4096x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32 : BitVec 32 := 1024#32
  let v39 : BitVec 32 := Scalar.muli v25 c1024_i32
  let c0_i32_26 : BitVec 32 := 0#32
  ![v39.toNat, 0]
def k0_off2 (d0 : Dev nD) : Fin 2 → Nat :=
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let c2_i32_18 : BitVec 32 := 2#32
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.subi c1_i32_17 v18
  let v34 : BitVec 32 := Scalar.muli c2_i32_18 v33
  let v35 : BitVec 32 := Scalar.addi v32 v34
  let c1024_i32_21 : BitVec 32 := 1024#32
  let v40 : BitVec 32 := Scalar.muli v35 c1024_i32_21
  let c0_i32_29 : BitVec 32 := 0#32
  ![v40.toNat, 0]
def k0_off3 (d0 : Dev nD) : Fin 2 → Nat :=
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let c2_i32_13 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_13 v18
  let v28 : BitVec 32 := Scalar.addi v26 v27
  let c1024_i32_22 : BitVec 32 := 1024#32
  let v41 : BitVec 32 := Scalar.muli v28 c1024_i32_22
  let c0_i32_32 : BitVec 32 := 0#32
  ![v41.toNat, 0]
def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_15 : BitVec 32 := 2#32
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v29 : BitVec 32 := Scalar.subi c1_i32_14 v18
  let v30 : BitVec 32 := Scalar.muli c2_i32_15 v29
  let v31 : BitVec 32 := Scalar.addi v5 v30
  let c1024_i32_23 : BitVec 32 := 1024#32
  let v42 : BitVec 32 := Scalar.muli v31 c1024_i32_23
  let c0_i32_34 : BitVec 32 := 0#32
  ![v42.toNat, 0]
def k0_off5 (d0 : Dev nD) : Fin 2 → Nat :=
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let c2_i32_18 : BitVec 32 := 2#32
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.subi c1_i32_17 v18
  let v34 : BitVec 32 := Scalar.muli c2_i32_18 v33
  let v35 : BitVec 32 := Scalar.addi v32 v34
  let c1024_i32_24 : BitVec 32 := 1024#32
  let v43 : BitVec 32 := Scalar.muli v35 c1024_i32_24
  let c512_i32 : BitVec 32 := 512#32
  let v44 : BitVec 32 := Scalar.addi v43 c512_i32
  let c0_i32_37 : BitVec 32 := 0#32
  ![v44.toNat, 0]
def k0_dev1 (d0 : Dev nD) : Nat :=
  let c0_i32_41 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_40 : BitVec 32 := 8#32
  let v66 : BitVec 32 := Scalar.muli v22 c8_i32_40
  let v67 : BitVec 32 := Scalar.addi c0_i32_41 v66
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v68 : BitVec 32 := Scalar.muli v5 c4_i32_42
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v70 : BitVec 32 := Scalar.muli v8 c1_i32_43
  let v71 : BitVec 32 := Scalar.addi v69 v70
  v71.toNat
def k0_dev2 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v72 : BitVec 32 := Scalar.muli v2 c8_i32_45
  let v73 : BitVec 32 := Scalar.addi c0_i32_46 v72
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_47 : BitVec 32 := 4#32
  let v74 : BitVec 32 := Scalar.muli v23 c4_i32_47
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v76 : BitVec 32 := Scalar.muli v8 c1_i32_48
  let v77 : BitVec 32 := Scalar.addi v75 v76
  v77.toNat
def k0_dev3 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v78 : BitVec 32 := Scalar.muli v2 c8_i32_50
  let v79 : BitVec 32 := Scalar.addi c0_i32_51 v78
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v80 : BitVec 32 := Scalar.muli v5 c4_i32_52
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_53 : BitVec 32 := 1#32
  let v82 : BitVec 32 := Scalar.muli v21 c1_i32_53
  let v83 : BitVec 32 := Scalar.addi v81 v82
  v83.toNat
def k0_off6 (d0 : Dev nD) (c0_i32_59 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_58 : BitVec 32 := 1024#32
  let v88 : BitVec 32 := Scalar.muli v25 c1024_i32_58
  let v89 : BitVec 32 := Scalar.addi v88 c0_i32_59
  let v90 : Index := Scalar.indexCast v89
  let c0 : Index := 0#32
  ![v90.toNat, 0]
def k0_off7 (d0 : Dev nD) (c0_i32_59 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_58 : BitVec 32 := 1024#32
  let v88 : BitVec 32 := Scalar.muli v25 c1024_i32_58
  let v89 : BitVec 32 := Scalar.addi v88 c0_i32_59
  let v92 : BitVec 32 := Scalar.addi v36 v89
  let v93 : Index := Scalar.indexCast v92
  let c0_60 : Index := 0#32
  ![v93.toNat, 0]
def k0_off8 (d0 : Dev nD) (c0_i32_62 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_61 : BitVec 32 := 1024#32
  let v95 : BitVec 32 := Scalar.muli v25 c1024_i32_61
  let v96 : BitVec 32 := Scalar.addi v36 v95
  let v97 : BitVec 32 := Scalar.addi v96 c0_i32_62
  let c0_i32_69 : BitVec 32 := 0#32
  ![v97.toNat, 0]
def k0_dev4 (d0 : Dev nD) : Nat :=
  let c0_i32_66 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_65 : BitVec 32 := 8#32
  let v98 : BitVec 32 := Scalar.muli v22 c8_i32_65
  let v99 : BitVec 32 := Scalar.addi c0_i32_66 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_67 : BitVec 32 := 4#32
  let v100 : BitVec 32 := Scalar.muli v5 c4_i32_67
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v102 : BitVec 32 := Scalar.muli v8 c1_i32_68
  let v103 : BitVec 32 := Scalar.addi v101 v102
  v103.toNat
def k0_dev5 (d0 : Dev nD) : Nat :=
  let c0_i32_79 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_78 : BitVec 32 := 8#32
  let v120 : BitVec 32 := Scalar.muli v22 c8_i32_78
  let v121 : BitVec 32 := Scalar.addi c0_i32_79 v120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v122 : BitVec 32 := Scalar.muli v5 c4_i32_80
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v124 : BitVec 32 := Scalar.muli v8 c1_i32_81
  let v125 : BitVec 32 := Scalar.addi v123 v124
  v125.toNat
def k0_off9 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_84 : BitVec 32 := 1024#32
  let v132 : BitVec 32 := Scalar.muli v25 c1024_i32_84
  let c512_i32_85 : BitVec 32 := 512#32
  let v133 : BitVec 32 := Scalar.addi v132 c512_i32_85
  let v134 : Index := Scalar.indexCast v133
  let c0_86 : Index := 0#32
  ![v134.toNat, 0]
def k0_off10 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_84 : BitVec 32 := 1024#32
  let v132 : BitVec 32 := Scalar.muli v25 c1024_i32_84
  let c512_i32_85 : BitVec 32 := 512#32
  let v133 : BitVec 32 := Scalar.addi v132 c512_i32_85
  let v136 : BitVec 32 := Scalar.addi v36 v133
  let v137 : Index := Scalar.indexCast v136
  let c0_87 : Index := 0#32
  ![v137.toNat, 0]
def k0_off11 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_88 : BitVec 32 := 1024#32
  let v139 : BitVec 32 := Scalar.muli v25 c1024_i32_88
  let v140 : BitVec 32 := Scalar.addi v36 v139
  let c512_i32_89 : BitVec 32 := 512#32
  let v141 : BitVec 32 := Scalar.addi v140 c512_i32_89
  let c0_i32_96 : BitVec 32 := 0#32
  ![v141.toNat, 0]
def k0_dev6 (d0 : Dev nD) : Nat :=
  let c0_i32_93 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_92 : BitVec 32 := 8#32
  let v142 : BitVec 32 := Scalar.muli v22 c8_i32_92
  let v143 : BitVec 32 := Scalar.addi c0_i32_93 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_94 : BitVec 32 := 4#32
  let v144 : BitVec 32 := Scalar.muli v5 c4_i32_94
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v146 : BitVec 32 := Scalar.muli v8 c1_i32_95
  let v147 : BitVec 32 := Scalar.addi v145 v146
  v147.toNat
def k0_off12 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_98 : BitVec 32 := 1024#32
  let v154 : BitVec 32 := Scalar.muli v25 c1024_i32_98
  let c832_i32 : BitVec 32 := 832#32
  let v155 : BitVec 32 := Scalar.addi v154 c832_i32
  let v156 : Index := Scalar.indexCast v155
  let c0_99 : Index := 0#32
  ![v156.toNat, 0]
def k0_off13 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_98 : BitVec 32 := 1024#32
  let v154 : BitVec 32 := Scalar.muli v25 c1024_i32_98
  let c832_i32 : BitVec 32 := 832#32
  let v155 : BitVec 32 := Scalar.addi v154 c832_i32
  let v158 : BitVec 32 := Scalar.addi v36 v155
  let v159 : Index := Scalar.indexCast v158
  let c0_100 : Index := 0#32
  ![v159.toNat, 0]
def k0_off14 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_101 : BitVec 32 := 1024#32
  let v161 : BitVec 32 := Scalar.muli v25 c1024_i32_101
  let v162 : BitVec 32 := Scalar.addi v36 v161
  let c832_i32_102 : BitVec 32 := 832#32
  let v163 : BitVec 32 := Scalar.addi v162 c832_i32_102
  let c0_i32_109 : BitVec 32 := 0#32
  ![v163.toNat, 0]
def k0_dev7 (d0 : Dev nD) : Nat :=
  let c0_i32_106 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_105 : BitVec 32 := 8#32
  let v164 : BitVec 32 := Scalar.muli v22 c8_i32_105
  let v165 : BitVec 32 := Scalar.addi c0_i32_106 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_107 : BitVec 32 := 4#32
  let v166 : BitVec 32 := Scalar.muli v5 c4_i32_107
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v168 : BitVec 32 := Scalar.muli v8 c1_i32_108
  let v169 : BitVec 32 := Scalar.addi v167 v168
  v169.toNat
def k0_off15 (d0 : Dev nD) : Fin 2 → Nat :=
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let c2_i32_18 : BitVec 32 := 2#32
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.subi c1_i32_17 v18
  let v34 : BitVec 32 := Scalar.muli c2_i32_18 v33
  let v35 : BitVec 32 := Scalar.addi v32 v34
  let c1024_i32_114 : BitVec 32 := 1024#32
  let v180 : BitVec 32 := Scalar.muli v35 c1024_i32_114
  let v181 : Index := Scalar.indexCast v180
  let c0_115 : Index := 0#32
  ![v181.toNat, 0]
def k0_off16 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let c2_i32_18 : BitVec 32 := 2#32
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.subi c1_i32_17 v18
  let v34 : BitVec 32 := Scalar.muli c2_i32_18 v33
  let v35 : BitVec 32 := Scalar.addi v32 v34
  let c1024_i32_114 : BitVec 32 := 1024#32
  let v180 : BitVec 32 := Scalar.muli v35 c1024_i32_114
  let v183 : BitVec 32 := Scalar.addi v36 v180
  let v184 : Index := Scalar.indexCast v183
  let c0_116 : Index := 0#32
  ![v184.toNat, 0]
def k0_off17 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let c2_i32_18 : BitVec 32 := 2#32
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.subi c1_i32_17 v18
  let v34 : BitVec 32 := Scalar.muli c2_i32_18 v33
  let v35 : BitVec 32 := Scalar.addi v32 v34
  let c1024_i32_117 : BitVec 32 := 1024#32
  let v186 : BitVec 32 := Scalar.muli v35 c1024_i32_117
  let v187 : BitVec 32 := Scalar.addi v36 v186
  let c0_i32_124 : BitVec 32 := 0#32
  ![v187.toNat, 0]
def k0_dev8 (d0 : Dev nD) : Nat :=
  let c0_i32_121 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.subi c1_i32_9 v2
  let c8_i32_120 : BitVec 32 := 8#32
  let v188 : BitVec 32 := Scalar.muli v22 c8_i32_120
  let v189 : BitVec 32 := Scalar.addi c0_i32_121 v188
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v190 : BitVec 32 := Scalar.muli v5 c4_i32_122
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v192 : BitVec 32 := Scalar.muli v8 c1_i32_123
  let v193 : BitVec 32 := Scalar.addi v191 v192
  v193.toNat
def k0_off18 (d0 : Dev nD) : Fin 2 → Nat :=
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let c2_i32_13 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_13 v18
  let v28 : BitVec 32 := Scalar.addi v26 v27
  let c1024_i32_129 : BitVec 32 := 1024#32
  let v204 : BitVec 32 := Scalar.muli v28 c1024_i32_129
  let v205 : Index := Scalar.indexCast v204
  let c0_130 : Index := 0#32
  ![v205.toNat, 0]
def k0_off19 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let c2_i32_13 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_13 v18
  let v28 : BitVec 32 := Scalar.addi v26 v27
  let c1024_i32_129 : BitVec 32 := 1024#32
  let v204 : BitVec 32 := Scalar.muli v28 c1024_i32_129
  let v207 : BitVec 32 := Scalar.addi v36 v204
  let v208 : Index := Scalar.indexCast v207
  let c0_131 : Index := 0#32
  ![v208.toNat, 0]
def k0_off20 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_15 : BitVec 32 := 2#32
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v29 : BitVec 32 := Scalar.subi c1_i32_14 v18
  let v30 : BitVec 32 := Scalar.muli c2_i32_15 v29
  let v31 : BitVec 32 := Scalar.addi v5 v30
  let c1024_i32_135 : BitVec 32 := 1024#32
  let v214 : BitVec 32 := Scalar.muli v31 c1024_i32_135
  let v215 : Index := Scalar.indexCast v214
  let c0_136 : Index := 0#32
  ![v215.toNat, 0]
def k0_off21 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_15 : BitVec 32 := 2#32
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v29 : BitVec 32 := Scalar.subi c1_i32_14 v18
  let v30 : BitVec 32 := Scalar.muli c2_i32_15 v29
  let v31 : BitVec 32 := Scalar.addi v5 v30
  let c1024_i32_135 : BitVec 32 := 1024#32
  let v214 : BitVec 32 := Scalar.muli v31 c1024_i32_135
  let v217 : BitVec 32 := Scalar.addi v36 v214
  let v218 : Index := Scalar.indexCast v217
  let c0_137 : Index := 0#32
  ![v218.toNat, 0]
def k0_off22 (d0 : Dev nD) : Fin 2 → Nat :=
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let c2_i32_18 : BitVec 32 := 2#32
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.subi c1_i32_17 v18
  let v34 : BitVec 32 := Scalar.muli c2_i32_18 v33
  let v35 : BitVec 32 := Scalar.addi v32 v34
  let c1024_i32_141 : BitVec 32 := 1024#32
  let v224 : BitVec 32 := Scalar.muli v35 c1024_i32_141
  let c512_i32_142 : BitVec 32 := 512#32
  let v225 : BitVec 32 := Scalar.addi v224 c512_i32_142
  let v226 : Index := Scalar.indexCast v225
  let c0_143 : Index := 0#32
  ![v226.toNat, 0]
def k0_off23 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v36 : BitVec 32 := Scalar.muli v2 c4096_i32
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let c2_i32_18 : BitVec 32 := 2#32
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : BitVec 32 := Scalar.subi c1_i32_17 v18
  let v34 : BitVec 32 := Scalar.muli c2_i32_18 v33
  let v35 : BitVec 32 := Scalar.addi v32 v34
  let c1024_i32_141 : BitVec 32 := 1024#32
  let v224 : BitVec 32 := Scalar.muli v35 c1024_i32_141
  let c512_i32_142 : BitVec 32 := 512#32
  let v225 : BitVec 32 := Scalar.addi v224 c512_i32_142
  let v228 : BitVec 32 := Scalar.addi v36 v225
  let v229 : Index := Scalar.indexCast v228
  let c0_144 : Index := 0#32
  ![v229.toNat, 0]
def k0_off24 (d0 : Dev nD) (c0_i32_154 : BitVec 32) : Fin 2 → Nat :=
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_19 v2
  let c4096_i32_20 : BitVec 32 := 4096#32
  let v38 : BitVec 32 := Scalar.muli v37 c4096_i32_20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_153 : BitVec 32 := 1024#32
  let v241 : BitVec 32 := Scalar.muli v25 c1024_i32_153
  let v242 : BitVec 32 := Scalar.addi v38 v241
  let v243 : BitVec 32 := Scalar.addi v242 c0_i32_154
  let c0_i32_161 : BitVec 32 := 0#32
  ![v243.toNat, 0]
def k0_dev9 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v244 : BitVec 32 := Scalar.muli v2 c8_i32_157
  let v245 : BitVec 32 := Scalar.addi c0_i32_158 v244
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_159 : BitVec 32 := 4#32
  let v246 : BitVec 32 := Scalar.muli v23 c4_i32_159
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v248 : BitVec 32 := Scalar.muli v8 c1_i32_160
  let v249 : BitVec 32 := Scalar.addi v247 v248
  v249.toNat
def k0_dev10 (d0 : Dev nD) : Nat :=
  let c0_i32_166 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_165 : BitVec 32 := 8#32
  let v256 : BitVec 32 := Scalar.muli v2 c8_i32_165
  let v257 : BitVec 32 := Scalar.addi c0_i32_166 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_167 : BitVec 32 := 4#32
  let v258 : BitVec 32 := Scalar.muli v5 c4_i32_167
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_168 : BitVec 32 := 1#32
  let v260 : BitVec 32 := Scalar.muli v21 c1_i32_168
  let v261 : BitVec 32 := Scalar.addi v259 v260
  v261.toNat
def k0_dev11 (d0 : Dev nD) : Nat :=
  let c0_i32_184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_183 : BitVec 32 := 8#32
  let v281 : BitVec 32 := Scalar.muli v2 c8_i32_183
  let v282 : BitVec 32 := Scalar.addi c0_i32_184 v281
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_185 : BitVec 32 := 4#32
  let v283 : BitVec 32 := Scalar.muli v23 c4_i32_185
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v285 : BitVec 32 := Scalar.muli v8 c1_i32_186
  let v286 : BitVec 32 := Scalar.addi v284 v285
  v286.toNat
def k0_dev12 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v293 : BitVec 32 := Scalar.muli v2 c8_i32_191
  let v294 : BitVec 32 := Scalar.addi c0_i32_192 v293
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v295 : BitVec 32 := Scalar.muli v5 c4_i32_193
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_194 : BitVec 32 := 1#32
  let v297 : BitVec 32 := Scalar.muli v21 c1_i32_194
  let v298 : BitVec 32 := Scalar.addi v296 v297
  v298.toNat
def k0_off25 (d0 : Dev nD) : Fin 2 → Nat :=
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_19 v2
  let c4096_i32_20 : BitVec 32 := 4096#32
  let v38 : BitVec 32 := Scalar.muli v37 c4096_i32_20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_205 : BitVec 32 := 1024#32
  let v315 : BitVec 32 := Scalar.muli v25 c1024_i32_205
  let v316 : BitVec 32 := Scalar.addi v38 v315
  let c512_i32_206 : BitVec 32 := 512#32
  let v317 : BitVec 32 := Scalar.addi v316 c512_i32_206
  let c0_i32_213 : BitVec 32 := 0#32
  ![v317.toNat, 0]
def k0_dev13 (d0 : Dev nD) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_209 : BitVec 32 := 8#32
  let v318 : BitVec 32 := Scalar.muli v2 c8_i32_209
  let v319 : BitVec 32 := Scalar.addi c0_i32_210 v318
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_211 : BitVec 32 := 4#32
  let v320 : BitVec 32 := Scalar.muli v23 c4_i32_211
  let v321 : BitVec 32 := Scalar.addi v319 v320
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v322 : BitVec 32 := Scalar.muli v8 c1_i32_212
  let v323 : BitVec 32 := Scalar.addi v321 v322
  v323.toNat
def k0_dev14 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v330 : BitVec 32 := Scalar.muli v2 c8_i32_217
  let v331 : BitVec 32 := Scalar.addi c0_i32_218 v330
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_219 : BitVec 32 := 4#32
  let v332 : BitVec 32 := Scalar.muli v5 c4_i32_219
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_220 : BitVec 32 := 1#32
  let v334 : BitVec 32 := Scalar.muli v21 c1_i32_220
  let v335 : BitVec 32 := Scalar.addi v333 v334
  v335.toNat
def k0_off26 (d0 : Dev nD) : Fin 2 → Nat :=
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_19 v2
  let c4096_i32_20 : BitVec 32 := 4096#32
  let v38 : BitVec 32 := Scalar.muli v37 c4096_i32_20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c1024_i32_231 : BitVec 32 := 1024#32
  let v352 : BitVec 32 := Scalar.muli v25 c1024_i32_231
  let v353 : BitVec 32 := Scalar.addi v38 v352
  let c832_i32_232 : BitVec 32 := 832#32
  let v354 : BitVec 32 := Scalar.addi v353 c832_i32_232
  let c0_i32_239 : BitVec 32 := 0#32
  ![v354.toNat, 0]
def k0_dev15 (d0 : Dev nD) : Nat :=
  let c0_i32_236 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_235 : BitVec 32 := 8#32
  let v355 : BitVec 32 := Scalar.muli v2 c8_i32_235
  let v356 : BitVec 32 := Scalar.addi c0_i32_236 v355
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_237 : BitVec 32 := 4#32
  let v357 : BitVec 32 := Scalar.muli v23 c4_i32_237
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v359 : BitVec 32 := Scalar.muli v8 c1_i32_238
  let v360 : BitVec 32 := Scalar.addi v358 v359
  v360.toNat
def k0_dev16 (d0 : Dev nD) : Nat :=
  let c0_i32_244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_243 : BitVec 32 := 8#32
  let v367 : BitVec 32 := Scalar.muli v2 c8_i32_243
  let v368 : BitVec 32 := Scalar.addi c0_i32_244 v367
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_245 : BitVec 32 := 4#32
  let v369 : BitVec 32 := Scalar.muli v5 c4_i32_245
  let v370 : BitVec 32 := Scalar.addi v368 v369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_246 : BitVec 32 := 1#32
  let v371 : BitVec 32 := Scalar.muli v21 c1_i32_246
  let v372 : BitVec 32 := Scalar.addi v370 v371
  v372.toNat
def k0_off27 (d0 : Dev nD) : Fin 2 → Nat :=
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_19 v2
  let c4096_i32_20 : BitVec 32 := 4096#32
  let v38 : BitVec 32 := Scalar.muli v37 c4096_i32_20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_15 : BitVec 32 := 2#32
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v29 : BitVec 32 := Scalar.subi c1_i32_14 v18
  let v30 : BitVec 32 := Scalar.muli c2_i32_15 v29
  let v31 : BitVec 32 := Scalar.addi v5 v30
  let c1024_i32_257 : BitVec 32 := 1024#32
  let v389 : BitVec 32 := Scalar.muli v31 c1024_i32_257
  let v390 : BitVec 32 := Scalar.addi v38 v389
  let c512_i32_258 : BitVec 32 := 512#32
  let v391 : BitVec 32 := Scalar.addi v390 c512_i32_258
  let c0_i32_265 : BitVec 32 := 0#32
  ![v391.toNat, 0]
def k0_dev17 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v392 : BitVec 32 := Scalar.muli v2 c8_i32_261
  let v393 : BitVec 32 := Scalar.addi c0_i32_262 v392
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_10 v5
  let c4_i32_263 : BitVec 32 := 4#32
  let v394 : BitVec 32 := Scalar.muli v23 c4_i32_263
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v396 : BitVec 32 := Scalar.muli v8 c1_i32_264
  let v397 : BitVec 32 := Scalar.addi v395 v396
  v397.toNat
def k0_off28 (d0 : Dev nD) : Fin 2 → Nat :=
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.subi c1_i32_19 v2
  let c4096_i32_20 : BitVec 32 := 4096#32
  let v38 : BitVec 32 := Scalar.muli v37 c4096_i32_20
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let c2_i32_13 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v27 : BitVec 32 := Scalar.muli c2_i32_13 v18
  let v28 : BitVec 32 := Scalar.addi v26 v27
  let c1024_i32_275 : BitVec 32 := 1024#32
  let v414 : BitVec 32 := Scalar.muli v28 c1024_i32_275
  let v415 : BitVec 32 := Scalar.addi v38 v414
  let c832_i32_276 : BitVec 32 := 832#32
  let v416 : BitVec 32 := Scalar.addi v415 c832_i32_276
  let c0_i32_283 : BitVec 32 := 0#32
  ![v416.toNat, 0]
def k0_dev18 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v417 : BitVec 32 := Scalar.muli v2 c8_i32_279
  let v418 : BitVec 32 := Scalar.addi c0_i32_280 v417
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_281 : BitVec 32 := 4#32
  let v419 : BitVec 32 := Scalar.muli v5 c4_i32_281
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_282 : BitVec 32 := 1#32
  let v421 : BitVec 32 := Scalar.muli v21 c1_i32_282
  let v422 : BitVec 32 := Scalar.addi v420 v421
  v422.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geo.lean ====
/-
The kernel's geometry in plain numbers: which device is a device's partner along an axis, which rows each transfer
moves, how the result buffer falls into pieces, and which device's argument each block of 64 rows comes from.
Everything here is finite arithmetic over the sixteen devices, decided once.
-/
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Gather

open Cert.KernelIdeal Cert.KernelIdeal.Gen
open Idealize.ShloMosaic

/-! ## Devices -/

/-- A device's coordinate on the first axis, -/
def xb (c : Dev nD) : ℕ := c.val / 8
/-- its coordinate on the second, -/
def yb (c : Dev nD) : ℕ := c.val / 4 % 2
/-- and the low bit of its coordinate on the third. -/
def zb (c : Dev nD) : ℕ := c.val % 2

/-- The partner of a device along an axis: each of the three is an involution. -/
def peer : Fin 3 → Dev nD → Dev nD
  | 0, c => Fin.ofNat 16 (c.val + 8)
  | 1, c => Fin.ofNat 16 (8 * (c.val / 8) + (c.val + 4) % 8)
  | 2, c => Fin.ofNat 16 (2 * (c.val / 2) + (c.val + 1) % 2)

theorem peer_peer : ∀ (a : Fin 3) (c : Dev nD), peer a (peer a c) = c := by decide +kernel

/-- The four sections of 1024 rows of a half, from the device's own point of view. -/
def sec (c : Dev nD) : Fin 4 → ℕ
  | 0 => yb c + 2 * zb c
  | 1 => (1 - yb c) + 2 * zb c
  | 2 => yb c + 2 * (1 - zb c)
  | 3 => (1 - yb c) + 2 * (1 - zb c)

/-! ## The loads: five pieces of the argument, copied into the scratch buffer -/

def loadLo (c : Dev nD) : Fin 5 → ℕ
  | 0 => 1024 * sec c 0
  | 1 => 1024 * sec c 3
  | 2 => 1024 * sec c 1
  | 3 => 1024 * sec c 2
  | 4 => 1024 * sec c 3 + 512

def loadLen : Fin 5 → ℕ
  | 0 => 1024 | 1 => 512 | 2 => 1024 | 3 => 1024 | 4 => 512

/-! ## The eight pieces of the device's own half that it writes itself -/

def ownLo (c : Dev nD) : Fin 8 → ℕ
  | 0 => 1024 * sec c 0
  | 1 => 1024 * sec c 0 + 256
  | 2 => 1024 * sec c 0 + 512
  | 3 => 1024 * sec c 0 + 832
  | 4 => 1024 * sec c 3
  | 5 => 1024 * sec c 1
  | 6 => 1024 * sec c 2
  | 7 => 1024 * sec c 3 + 512

def ownLen : Fin 8 → ℕ
  | 0 => 256 | 1 => 256 | 2 => 320 | 3 => 192 | 4 => 512 | 5 => 1024 | 6 => 1024 | 7 => 512

/-- The load whose rows a piece is cut from. -/
def ownLoad : Fin 8 → Fin 5
  | 0 => 0 | 1 => 0 | 2 => 0 | 3 => 0 | 4 => 1 | 5 => 2 | 6 => 3 | 7 => 4

/-! ## The fifteen remote transfers: axis and number -/

def len : Fin 3 → Fin 5 → ℕ
  | _, 0 => 256 | _, 1 => 256 | _, 2 => 320 | _, 3 => 192
  | 0, 4 => 512 | 1, 4 => 320 | _, 4 => 192

/-- The first row the device sends (and the row it lands at on the partner). -/
def lo (c : Dev nD) : Fin 3 → Fin 5 → ℕ
  | 0, 0 => 4096 * xb c + 1024 * sec c 0
  | 0, 1 => 4096 * xb c + (1024 * sec c 0 + 256)
  | 0, 2 => 4096 * xb c + (1024 * sec c 0 + 512)
  | 0, 3 => 4096 * xb c + (1024 * sec c 0 + 832)
  | 0, 4 => 4096 * xb c + 1024 * sec c 3
  | _, 0 => 4096 * (1 - xb c) + 1024 * sec c 0
  | _, 1 => 4096 * (1 - xb c) + (1024 * sec c 0 + 256)
  | _, 2 => 4096 * (1 - xb c) + (1024 * sec c 0 + 512)
  | _, 3 => 4096 * (1 - xb c) + (1024 * sec c 0 + 832)
  | 1, 4 => 4096 * (1 - xb c) + (1024 * sec c 2 + 512)
  | _, 4 => 4096 * (1 - xb c) + (1024 * sec c 1 + 832)

/-! ## The pieces of the result buffer -/

/-- The eight own pieces and the fifteen landing pieces. -/
abbrev Piece : Type := Fin 8 ⊕ (Fin 3 × Fin 5)

def pieceLo (c : Dev nD) : Piece → ℕ
  | .inl k => 4096 * xb c + ownLo c k
  | .inr (a, j) => lo (peer a c) a j

def pieceLen : Piece → ℕ
  | .inl k => ownLen k
  | .inr (a, j) => len a j

set_option maxHeartbeats 4000000 in
theorem own_own_apart : ∀ (c : Dev nD) (k k' : Fin 8), k ≠ k' →
    ownLo c k + ownLen k ≤ ownLo c k' ∨ ownLo c k' + ownLen k' ≤ ownLo c k := by decide +kernel

theorem own_land_apart : ∀ (c : Dev nD) (k : Fin 8) (a : Fin 3) (j : Fin 5),
    4096 * xb c + ownLo c k + ownLen k ≤ lo (peer a c) a j ∨ lo (peer a c) a j + len a j ≤ 4096 * xb c + ownLo c k := by
  decide +kernel

theorem land_land_apart : ∀ (c : Dev nD) (a : Fin 3) (j : Fin 5) (a' : Fin 3) (j' : Fin 5), ¬(a = a' ∧ j = j') →
    lo (peer a c) a j + len a j ≤ lo (peer a' c) a' j' ∨ lo (peer a' c) a' j' + len a' j' ≤ lo (peer a c) a j := by
  decide +kernel

theorem piece_apart (c : Dev nD) (p p' : Piece) (h : p ≠ p') :
    pieceLo c p + pieceLen p ≤ pieceLo c p' ∨ pieceLo c p' + pieceLen p' ≤ pieceLo c p := by
  match p, p' with
  | .inl k, .inl k' =>
    have := own_own_apart c k k' fun e => h (e ▸ rfl)
    simp only [pieceLo, pieceLen]; omega
  | .inl k, .inr (a, j) => exact own_land_apart c k a j
  | .inr (a, j), .inl k => exact (own_land_apart c k a j).symm
  | .inr (a, j), .inr (a', j') => exact land_land_apart c a j a' j' fun e => h (by rw [e.1, e.2])

theorem load_apart : ∀ (c : Dev nD) (k k' : Fin 5), k ≠ k' →
    loadLo c k + loadLen k ≤ loadLo c k' ∨ loadLo c k' + loadLen k' ≤ loadLo c k := by decide +kernel

/-- All the numbers above are multiples of 64, so membership is a matter of blocks of 64 rows. -/
theorem lo_dvd : ∀ (c : Dev nD) (a : Fin 3) (j : Fin 5), lo c a j % 64 = 0 ∧ len a j % 64 = 0 := by decide +kernel
theorem own_dvd : ∀ (c : Dev nD) (k : Fin 8), ownLo c k % 64 = 0 ∧ ownLen k % 64 = 0 := by decide +kernel
theorem load_dvd : ∀ (c : Dev nD) (k : Fin 5), loadLo c k % 64 = 0 ∧ loadLen k % 64 = 0 := by decide +kernel

theorem piece_dvd (c : Dev nD) (p : Piece) : pieceLo c p % 64 = 0 ∧ pieceLen p % 64 = 0 := by
  match p with
  | .inl k => have := own_dvd c k; simp only [pieceLo, pieceLen]; omega
  | .inr (a, j) => exact lo_dvd _ a j

theorem piece_cover_block : ∀ (c : Dev nD) (b : Fin 128),
    (∃ k : Fin 8, 4096 * xb c + ownLo c k ≤ 64 * b.val ∧ 64 * b.val < 4096 * xb c + ownLo c k + ownLen k) ∨
    (∃ (a : Fin 3) (j : Fin 5), lo (peer a c) a j ≤ 64 * b.val ∧ 64 * b.val < lo (peer a c) a j + len a j) := by
  decide +kernel

theorem load_cover_block : ∀ (c : Dev nD) (b : Fin 64),
    ∃ k : Fin 5, loadLo c k ≤ 64 * b.val ∧ 64 * b.val < loadLo c k + loadLen k := by decide +kernel

theorem piece_cover (c : Dev nD) (i : ℕ) (hi : i < 8192) : ∃ p : Piece, pieceLo c p ≤ i ∧ i < pieceLo c p + pieceLen p := by
  rcases piece_cover_block c ⟨i / 64, by omega⟩ with ⟨k, h⟩ | ⟨a, j, h⟩
  · refine ⟨.inl k, ?_⟩; have := own_dvd c k; simp only [pieceLo, pieceLen] at h ⊢; omega
  · refine ⟨.inr (a, j), ?_⟩; have := lo_dvd (peer a c) a j; simp only [pieceLo, pieceLen] at h ⊢; omega

theorem load_cover (c : Dev nD) (i : ℕ) (hi : i < 4096) : ∃ k : Fin 5, loadLo c k ≤ i ∧ i < loadLo c k + loadLen k := by
  obtain ⟨k, h⟩ := load_cover_block c ⟨i / 64, by omega⟩
  refine ⟨k, ?_⟩; have := load_dvd c k; simp only at h ⊢; omega

/-- An own piece lies within the rows of its load. -/
theorem own_sub_load : ∀ (c : Dev nD) (k : Fin 8),
    loadLo c (ownLoad k) ≤ ownLo c k ∧ ownLo c k + ownLen k ≤ loadLo c (ownLoad k) + loadLen (ownLoad k) := by decide +kernel

theorem own_lt : ∀ (c : Dev nD) (k : Fin 8), ownLo c k + ownLen k ≤ 4096 := by decide +kernel

/-! ## What is passed on: the rows a device sends over the second and third axis are rows that landed on it -/

theorem lo_y_eq_z : ∀ (c : Dev nD) (j : Fin 5), j ≠ 4 → lo c 1 j = lo c 2 j ∧ len 1 j = len 2 j := by decide +kernel
theorem lo_y_eq_land : ∀ (c : Dev nD) (j : Fin 5), j ≠ 4 → lo c 1 j = lo (peer 0 c) 0 j ∧ len 1 j = len 0 j := by decide +kernel
theorem lo_y4 : ∀ c : Dev nD, lo c 1 4 = lo (peer 2 c) 2 2 ∧ len 1 4 = len 2 2 := by decide +kernel
theorem lo_z4 : ∀ c : Dev nD, lo c 2 4 = lo (peer 1 c) 1 3 ∧ len 2 4 = len 1 3 := by decide +kernel

/-! ## Where a block of the result comes from -/

/-- The device whose argument holds block `b` (64 rows) of what device `c` ends with. -/
def src (c : Dev nD) (b : ℕ) : Dev nD :=
  if b / 64 = xb c then c
  else if b % 64 / 16 = sec c 0 then peer 0 c
  else if b % 64 / 16 = sec c 1 then peer 0 (peer 1 c)
  else if b % 64 / 16 = sec c 2 then peer 0 (peer 2 c)
  else if b % 16 < 8 then peer 0 c
  else peer 0 (peer 2 (peer 1 c))

theorem src_land_block : ∀ (c : Dev nD) (a : Fin 3) (j : Fin 5) (b : Fin 128),
    lo (peer a c) a j ≤ 64 * b.val → 64 * b.val < lo (peer a c) a j + len a j → src c b.val = src (peer a c) b.val := by
  decide +kernel

theorem src_land (c : Dev nD) (a : Fin 3) (j : Fin 5) (i : ℕ) (hi : i < 8192) (h₁ : lo (peer a c) a j ≤ i)
    (h₂ : i < lo (peer a c) a j + len a j) : src c (i / 64) = src (peer a c) (i / 64) := by
  have := lo_dvd (peer a c) a j
  exact src_land_block c a j ⟨i / 64, by omega⟩ (by show _ ≤ 64 * (i / 64); omega) (by show 64 * (i / 64) < _; omega)

theorem src_own (c : Dev nD) (i : ℕ) (h₁ : 4096 * xb c ≤ i) (h₂ : i < 4096 * xb c + 4096) : src c (i / 64) = c := by
  unfold src; rw [if_pos (by omega)]

/-- The source's first coordinate is the half the block lies in. -/
theorem src_half : ∀ (c : Dev nD) (b : Fin 128), xb (src c b.val) = b.val / 64 := by decide +kernel

/-! ## The printed offsets and devices, by these tables -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 1 c := by revert c; decide +kernel
theorem dev12_eq (c : Dev nD) : (⟨k0_dev12 c, k0_dev12_lt c⟩ : Dev nD) = peer 2 c := by revert c; decide +kernel
theorem dev13_eq (c : Dev nD) : (⟨k0_dev13 c, k0_dev13_lt c⟩ : Dev nD) = peer 1 c := by revert c; decide +kernel
theorem dev14_eq (c : Dev nD) : (⟨k0_dev14 c, k0_dev14_lt c⟩ : Dev nD) = peer 2 c := by revert c; decide +kernel
theorem dev15_eq (c : Dev nD) : (⟨k0_dev15 c, k0_dev15_lt c⟩ : Dev nD) = peer 1 c := by revert c; decide +kernel
theorem dev16_eq (c : Dev nD) : (⟨k0_dev16 c, k0_dev16_lt c⟩ : Dev nD) = peer 2 c := by revert c; decide +kernel
theorem dev17_eq (c : Dev nD) : (⟨k0_dev17 c, k0_dev17_lt c⟩ : Dev nD) = peer 1 c := by revert c; decide +kernel
theorem dev18_eq (c : Dev nD) : (⟨k0_dev18 c, k0_dev18_lt c⟩ : Dev nD) = peer 2 c := by revert c; decide +kernel

theorem off1_eq (c : Dev nD) : k0_off1 c = ![loadLo c 0, 0] := by revert c; decide +kernel
theorem off2_eq (c : Dev nD) : k0_off2 c = ![loadLo c 1, 0] := by revert c; decide +kernel
theorem off3_eq (c : Dev nD) : k0_off3 c = ![loadLo c 2, 0] := by revert c; decide +kernel
theorem off4_eq (c : Dev nD) : k0_off4 c = ![loadLo c 3, 0] := by revert c; decide +kernel
theorem off5_eq (c : Dev nD) : k0_off5 c = ![loadLo c 4, 0] := by revert c; decide +kernel

theorem off6_0_eq (c : Dev nD) : k0_off6 c 0#32 = ![ownLo c 0, 0] := by revert c; decide +kernel
theorem off7_0_eq (c : Dev nD) : k0_off7 c 0#32 = ![4096 * xb c + ownLo c 0, 0] := by revert c; decide +kernel
theorem off6_1_eq (c : Dev nD) : k0_off6 c 256#32 = ![ownLo c 1, 0] := by revert c; decide +kernel
theorem off7_1_eq (c : Dev nD) : k0_off7 c 256#32 = ![4096 * xb c + ownLo c 1, 0] := by revert c; decide +kernel
theorem off9_eq (c : Dev nD) : k0_off9 c = ![ownLo c 2, 0] := by revert c; decide +kernel
theorem off10_eq (c : Dev nD) : k0_off10 c = ![4096 * xb c + ownLo c 2, 0] := by revert c; decide +kernel
theorem off12_eq (c : Dev nD) : k0_off12 c = ![ownLo c 3, 0] := by revert c; decide +kernel
theorem off13_eq (c : Dev nD) : k0_off13 c = ![4096 * xb c + ownLo c 3, 0] := by revert c; decide +kernel
theorem off15_eq (c : Dev nD) : k0_off15 c = ![ownLo c 4, 0] := by revert c; decide +kernel
theorem off16_eq (c : Dev nD) : k0_off16 c = ![4096 * xb c + ownLo c 4, 0] := by revert c; decide +kernel
theorem off18_eq (c : Dev nD) : k0_off18 c = ![ownLo c 5, 0] := by revert c; decide +kernel
theorem off19_eq (c : Dev nD) : k0_off19 c = ![4096 * xb c + ownLo c 5, 0] := by revert c; decide +kernel
theorem off20_eq (c : Dev nD) : k0_off20 c = ![ownLo c 6, 0] := by revert c; decide +kernel
theorem off21_eq (c : Dev nD) : k0_off21 c = ![4096 * xb c + ownLo c 6, 0] := by revert c; decide +kernel
theorem off22_eq (c : Dev nD) : k0_off22 c = ![ownLo c 7, 0] := by revert c; decide +kernel
theorem off23_eq (c : Dev nD) : k0_off23 c = ![4096 * xb c + ownLo c 7, 0] := by revert c; decide +kernel

theorem off8_0_eq (c : Dev nD) : k0_off8 c 0#32 = ![lo c 0 0, 0] := by revert c; decide +kernel
theorem off8_1_eq (c : Dev nD) : k0_off8 c 256#32 = ![lo c 0 1, 0] := by revert c; decide +kernel
theorem off11_eq (c : Dev nD) : k0_off11 c = ![lo c 0 2, 0] := by revert c; decide +kernel
theorem off14_eq (c : Dev nD) : k0_off14 c = ![lo c 0 3, 0] := by revert c; decide +kernel
theorem off17_eq (c : Dev nD) : k0_off17 c = ![lo c 0 4, 0] := by revert c; decide +kernel
theorem off24_0_eq (c : Dev nD) : k0_off24 c 0#32 = ![lo c 1 0, 0] := by revert c; decide +kernel
theorem off24_1_eq (c : Dev nD) : k0_off24 c 256#32 = ![lo c 1 1, 0] := by revert c; decide +kernel
theorem off25_eq (c : Dev nD) : k0_off25 c = ![lo c 1 2, 0] := by revert c; decide +kernel
theorem off26_eq (c : Dev nD) : k0_off26 c = ![lo c 1 3, 0] := by revert c; decide +kernel
theorem off27_eq (c : Dev nD) : k0_off27 c = ![lo c 1 4, 0] := by revert c; decide +kernel
theorem off28_eq (c : Dev nD) : k0_off28 c = ![lo c 2 4, 0] := by revert c; decide +kernel
theorem off24_0_eqz (c : Dev nD) : k0_off24 c 0#32 = ![lo c 2 0, 0] := by revert c; decide +kernel
theorem off24_1_eqz (c : Dev nD) : k0_off24 c 256#32 = ![lo c 2 1, 0] := by revert c; decide +kernel
theorem off25_eqz (c : Dev nD) : k0_off25 c = ![lo c 2 2, 0] := by revert c; decide +kernel
theorem off26_eqz (c : Dev nD) : k0_off26 c = ![lo c 2 3, 0] := by revert c; decide +kernel

end Cert.Gather
-- ==== Proof.Sched.lean ====
/-
The protocol of the exchange under the rounds library: one round, round 0, at 36 cells of each device — the runtime's
barrier semaphore, with one duty per axis, and 35 DMA semaphores, with one duty each: five loads, and a send and a
receive semaphore for each of the fifteen remote transfers. Also the pieces the assertions are about, the levels, and
what a device owes at launch as a list in program order.
-/
module

public import proofs.«01_k».proof.Proof.Geo
public import Idealize.ShloMosaic.Lib.Pipeline.Launch
public import Idealize.ShloMosaic.Lib.Pipeline.Kit
public import Idealize.ShloMosaic.Lib.Tactic

@[expose] public section

set_option maxRecDepth 16384

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-! ## The resource algebra: the pipeline library's copy and the exchange's (a duty per axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers, and their rows -/

abbrev argL (c : Dev nD) : Loc nD τ sig := (c : Thread nD τ).loc main_arg0
abbrev outL (c : Dev nD) : Loc nD τ sig := (c : Thread nD τ).loc cc0_stg0_0
abbrev xvL (c : Dev nD) : Loc nD τ sig := (c : Thread nD τ).loc cc0_scratch0

/-- Rows `a` to `a + n` of a buffer of `A` rows of 1024. -/
def rows (A a n : ℕ) : Finset (Shape.Idx ⟨2, ![A, 1024]⟩) :=
  Finset.univ.filter fun i => a ≤ (i 0).val ∧ (i 0).val < a + n

theorem mem_rows {A a n : ℕ} {i : Shape.Idx ⟨2, ![A, 1024]⟩} : i ∈ rows A a n ↔ a ≤ (i 0).val ∧ (i 0).val < a + n := by
  simp [rows]

theorem rows_disjoint {A a n a' n' : ℕ} (h : a + n ≤ a' ∨ a' + n' ≤ a) : Disjoint (rows A a n) (rows A a' n') := by
  rw [Finset.disjoint_left]; intro i hi hi'; rw [mem_rows] at hi hi'; omega

theorem rows_subset {A a n a' n' : ℕ} (h₁ : a' ≤ a) (h₂ : a + n ≤ a' + n') : rows A a n ⊆ rows A a' n' := by
  intro i hi; rw [mem_rows] at hi ⊢; omega

/-- Row `i` of the result, in the numbering of one device's argument. -/
def argIdx (i : S8192x1024.Idx) : S4096x1024.Idx
  | ⟨0, _⟩ => ⟨(i 0).val % 4096, Nat.mod_lt _ (by decide)⟩
  | ⟨1, _⟩ => i 1

/-- What the result buffer of device `c` ends with: each block of 64 rows from the argument of its source. -/
def fin (c : Dev nD) : Buf (Elt F) (outL c) := fun (i : S8192x1024.Idx) => m (argL (src c ((i 0).val / 64))) (argIdx i)

/-- What the scratch buffer holds where a load has landed: the device's argument. -/
def xvFin (c : Dev nD) : Buf (Elt F) (xvL c) := fun (i : S4096x1024.Idx) => m (argL c) i

abbrev outPts (c : Dev nD) (a n : ℕ) (q : PosShare TreeShare) (f : Buf (Elt F) (outL c)) : sProp 𝕄 := outL c ↦[rows 8192 a n]{q} f
abbrev xvPts (c : Dev nD) (a n : ℕ) (f : Buf (Elt F) (xvL c)) : sProp 𝕄 := xvL c ↦[rows 4096 a n]{fullShare} f
abbrev argPts (c : Dev nD) (a n : ℕ) : sProp 𝕄 := argL c ↦[rows 4096 a n]{fullShare} m (argL c)

/-- The share of the source rows a transfer takes: the chunks are sent over two axes at once, half each. -/
def shr : Fin 3 → Fin 5 → PosShare TreeShare
  | _, 4 => fullShare
  | 0, _ => fullShare
  | 1, _ => fullShare.left
  | _, _ => fullShare.right

/-! ## Cells -/

/-- The runtime's barrier semaphore. -/
abbrev barS : Sem sig := (SemArray.scalar (sig.barrier 0 rfl) : Sems sig S_).sem

def loadIx (j : Fin 5) : DmaSem sig := Fin.ofNat 36 (1 + j.val)
def sendIx (a : Fin 3) (j : Fin 5) : DmaSem sig := Fin.ofNat 36 (6 + 10 * a.val + j.val)
def recvIx (a : Fin 3) (j : Fin 5) : DmaSem sig := Fin.ofNat 36 (11 + 10 * a.val + j.val)

abbrev barC (c : Dev nD) : GSem nD τ sig := ((c : Thread nD τ), .reg barS)
abbrev dmaC (c : Dev nD) (k : DmaSem sig) : GSem nD τ sig := ((c : Thread nD τ), .dma k)

/-- What a DMA semaphore is for. -/
inductive Role where
  | stage | load (j : Fin 5) | send (a : Fin 3) (j : Fin 5) | recv (a : Fin 3) (j : Fin 5)
deriving DecidableEq

def role (k : Fin 36) : Role :=
  if k.val = 0 then .stage
  else if k.val ≤ 5 then .load (Fin.ofNat 5 (k.val - 1))
  else if (k.val - 6) % 10 < 5 then .send (Fin.ofNat 3 ((k.val - 6) / 10)) (Fin.ofNat 5 ((k.val - 6) % 10))
  else .recv (Fin.ofNat 3 ((k.val - 6) / 10)) (Fin.ofNat 5 ((k.val - 6) % 10 - 5))

theorem role_load : ∀ j, role (loadIx j) = .load j := by decide
theorem role_send : ∀ a j, role (sendIx a j) = .send a j := by decide
theorem role_recv : ∀ a j, role (recvIx a j) = .recv a j := by decide
theorem loadIx_ne : ∀ j, loadIx j ≠ 0 := by decide
theorem sendIx_ne : ∀ a j, sendIx a j ≠ 0 := by decide
theorem recvIx_ne : ∀ a j, recvIx a j ≠ 0 := by decide

/-! ## Credits -/

/-- A block of `n` full rows. -/
abbrev blk (n : ℕ) : Shape := ⟨2, ![n, 1024]⟩

theorem blk_pos {n : ℕ} (h : 0 < n) : 0 < (blk n).numel :=
  Shape.numel_pos fun a => by fin_cases a; exacts [h, Nat.succ_pos _]

/-- What a landing of `n` rows in the result buffer, or the scratch buffer, credits. -/
def crOut (n : ℕ) : ℕ := sig.dmaCredit .tc (Kind.tc.table .vmem) 0 (blk n) .bf16
def crXv (n : ℕ) : ℕ := sig.dmaCredit .tc (Kind.tc.table .vmem) 1 (blk n) .bf16

theorem len_pos : ∀ a j, 0 < len a j := by decide
theorem loadLen_pos : ∀ j, 0 < loadLen j := by decide

/-! ## Payloads -/

/-- What a device hands its partner along an axis with its signal: the five places the partner's transfers land at. -/
def landAny (c' c : Dev nD) (a : Fin 3) (j : Fin 5) : sProp 𝕄 := iprop(∃ f, outPts c' (lo c a j) (len a j) fullShare f)
def barPay (c : Dev nD) (a : Fin 3) : sProp 𝕄 := bigSep Finset.univ fun j => landAny (F := F) (peer a c) c a j
/-- The rows a transfer was sent from, back. -/
def sendPay (c : Dev nD) (a : Fin 3) (j : Fin 5) : sProp 𝕄 := outPts c (lo c a j) (len a j) (shr a j) (fin m c)
/-- The rows that landed. -/
def recvPay (c : Dev nD) (a : Fin 3) (j : Fin 5) : sProp 𝕄 := outPts c (lo (peer a c) a j) (len a j) fullShare (fin m c)
/-- The rows loaded, and the argument's back. -/
def loadPay (c : Dev nD) (j : Fin 5) : sProp 𝕄 :=
  iprop(xvPts c (loadLo c j) (loadLen j) (xvFin m c) ∗ argPts m c (loadLo c j) (loadLen j))

instance landAny_storable (c' c : Dev nD) (a j) : BI.Storable (upEmb : UEmb _ 𝕄) (landAny (F := F) c' c a j) := by unfold landAny; infer_instance
instance barPay_storable (c : Dev nD) (a) : BI.Storable (upEmb : UEmb _ 𝕄) (barPay (F := F) c a) := by unfold barPay; infer_instance
instance sendPay_storable (c : Dev nD) (a j) : BI.Storable (upEmb : UEmb _ 𝕄) (sendPay m c a j) := by unfold sendPay; infer_instance
instance recvPay_storable (c : Dev nD) (a j) : BI.Storable (upEmb : UEmb _ 𝕄) (recvPay m c a j) := by unfold recvPay; infer_instance
instance loadPay_storable (c : Dev nD) (j) : BI.Storable (upEmb : UEmb _ 𝕄) (loadPay m c j) := by unfold loadPay; infer_instance

def dmaAmt (k : DmaSem sig) : ℕ :=
  match role k with
  | .stage => 1
  | .load j => crXv (loadLen j)
  | .send a j => crOut (len a j)
  | .recv a j => crOut (len a j)

def dmaPay (c : Dev nD) (k : DmaSem sig) : sProp 𝕄 :=
  match role k with
  | .stage => iprop(emp)
  | .load j => loadPay m c j
  | .send a j => sendPay m c a j
  | .recv a j => recvPay m c a j

instance dmaPay_storable (c : Dev nD) (k) : BI.Storable (upEmb : UEmb _ 𝕄) (dmaPay m c k) := by unfold dmaPay; split <;> infer_instance

def semAmt : SemLoc sig → ℕ
  | .reg _ => 1
  | .dma k => dmaAmt k

def semPay (c : Dev nD) (d : Fin 3) : SemLoc sig → sProp 𝕄
  | .reg _ => barPay c d
  | .dma k => dmaPay m c k

instance semPay_storable (c : Dev nD) (d) (s) : BI.Storable (upEmb : UEmb _ 𝕄) (semPay m c d s) := by unfold semPay; split <;> infer_instance

def semDuties : SemLoc sig → Finset (Fin 3)
  | .reg _ => Finset.univ
  | .dma k => if k = 0 then ∅ else {0}

theorem dmaAmt_pos (k : DmaSem sig) : 0 < dmaAmt k := by
  unfold dmaAmt
  split
  · exact Nat.one_pos
  · exact sig.dmaCredit_pos _ _ _ _ _ (blk_pos (loadLen_pos _))
  · exact sig.dmaCredit_pos _ _ _ _ _ (blk_pos (len_pos _ _))
  · exact sig.dmaCredit_pos _ _ _ _ _ (blk_pos (len_pos _ _))

def Rd : Rounds.Schedule (GSem nD τ sig) (Fin 3) 𝕄 where
  duties g r := if r = 0 ∧ g.1.2 = .tc then semDuties g.2 else ∅
  unitless _ := False
  amount g _ _ := semAmt g.2
  payload g _ d := semPay m g.1.1 d g.2
  amount_pos g _ _ _ := by
    unfold semAmt; split
    · exact Nat.one_pos
    · exact dmaAmt_pos _

instance Rd_payload_storable (g : GSem nD τ sig) (r : ℕ) (d : Fin 3) :
    BI.Storable (upEmb : UEmb _ 𝕄) ((Rd m).payload g r d) := semPay_storable m g.1.1 d g.2

section Reading
variable (c : Dev nD)

theorem duties_bar : (Rd m).duties (barC c) 0 = Finset.univ := by dsimp only [Rd]; exact if_pos ⟨rfl, rfl⟩
theorem duties_dma {k : DmaSem sig} (h : k ≠ 0) : (Rd m).duties (dmaC c k) 0 = {0} := by
  dsimp only [Rd]; rw [if_pos ⟨rfl, rfl⟩]; exact if_neg h
theorem duties_later (g : GSem nD τ sig) : ∀ r, 0 + 1 ≤ r → (Rd m).duties g r = ∅ :=
  fun r hr => by dsimp only [Rd]; rw [if_neg fun h => by omega]

theorem amount_bar (d : Fin 3) : (Rd m).amount (barC c) 0 d = 1 := rfl
theorem amount_dma (k : DmaSem sig) (d : Fin 3) : (Rd m).amount (dmaC c k) 0 d = dmaAmt k := rfl
theorem dmaAmt_load (j : Fin 5) : dmaAmt (loadIx j) = crXv (loadLen j) := by unfold dmaAmt; rw [role_load]
theorem dmaAmt_send (a : Fin 3) (j : Fin 5) : dmaAmt (sendIx a j) = crOut (len a j) := by unfold dmaAmt; rw [role_send]
theorem dmaAmt_recv (a : Fin 3) (j : Fin 5) : dmaAmt (recvIx a j) = crOut (len a j) := by unfold dmaAmt; rw [role_recv]

theorem expect_bar : (Rd m).expect (barC c) 0 = 3 := by
  unfold Schedule.expect Schedule.amountOf
  rw [duties_bar, Finset.sum_congr rfl fun d _ => amount_bar m c d, Finset.sum_const, Finset.card_univ, Fintype.card_fin, smul_eq_mul]
theorem expect_dma {k : DmaSem sig} (h : k ≠ 0) : (Rd m).expect (dmaC c k) 0 = dmaAmt k := by
  unfold Schedule.expect Schedule.amountOf; rw [duties_dma m c h, Finset.sum_singleton, amount_dma]

theorem payload_bar (d : Fin 3) : (Rd m).payload (barC c) 0 d = barPay c d := rfl
theorem payload_load (j : Fin 5) (d) : (Rd m).payload (dmaC c (loadIx j)) 0 d = loadPay m c j := by
  show dmaPay m c (loadIx j) = _; unfold dmaPay; rw [role_load]
theorem payload_send (a : Fin 3) (j : Fin 5) (d) : (Rd m).payload (dmaC c (sendIx a j)) 0 d = sendPay m c a j := by
  show dmaPay m c (sendIx a j) = _; unfold dmaPay; rw [role_send]
theorem payload_recv (a : Fin 3) (j : Fin 5) (d) : (Rd m).payload (dmaC c (recvIx a j)) 0 d = recvPay m c a j := by
  show dmaPay m c (recvIx a j) = _; unfold dmaPay; rw [role_recv]

theorem rest_bar : bigSep ((Rd m).duties (barC c) 0 \ ∅) (fun d => (Rd m).payload (barC c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_dma {k : DmaSem sig} (h : k ≠ 0) : bigSep ((Rd m).duties (dmaC c k) 0 \ ∅) (fun d => (Rd m).payload (dmaC c k) 0 d)
    = (Rd m).payload (dmaC c k) 0 0 := by
  rw [Finset.sdiff_empty, duties_dma m c h, bigSep_singleton]

end Reading

/-! ## What a device owes, in program order; the levels -/

/-- A payment to a partner: along an axis, a barrier unit (`none`) or a transfer's credit. -/
abbrev Pay : Type := Fin 3 × Option (Fin 5)

def paySem : Pay → SemLoc sig
  | (_, none) => .reg barS
  | (a, some j) => .dma (recvIx a j)
def payAmt : Pay → ℕ
  | (_, none) => 1
  | (a, some j) => crOut (len a j)
abbrev payCell (c : Dev nD) (p : Pay) : GSem nD τ sig := ((c : Thread nD τ), paySem p)

def owe (c : Dev nD) : List Pay → CellTallies nD τ sig Unit
  | [] => 0
  | p :: l => owe c l + tallyAt (payCell (peer p.1 c) p) () (payAmt p)

/-- Every payment of a device, in the order it makes them. -/
def pays : List Pay :=
  [(0, none), (1, none), (2, none),
   (0, some 0), (0, some 1), (0, some 2), (0, some 3), (0, some 4),
   (1, some 0), (2, some 0), (1, some 1), (2, some 1), (1, some 2), (2, some 2), (1, some 3), (2, some 3),
   (1, some 4), (2, some 4)]

def O₀ (c : Dev nD) : CellTallies nD τ sig Unit := owe c pays

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A receive waits below the receives that pass on what landed. -/
def roleLv : Role → ℕ
  | .recv 0 _ => 2
  | .recv _ 4 => 4
  | .recv _ _ => 3
  | _ => 0
def semLv : SemLoc sig → ℕ
  | .reg _ => 1
  | .dma k => roleLv (role k)
def lv (g : GSem nD τ sig) (_ : Unit) : ℕ := semLv g.2

theorem owe_pos {c : Dev nD} {l : List Pay} {g : GSem nD τ sig} {u : Unit} (h : 0 < owe c l g u) :
    ∃ p ∈ l, g = payCell (peer p.1 c) p := by
  induction l with
  | nil => exact absurd h (Nat.lt_irrefl 0)
  | cons p l ih =>
    unfold owe at h
    rw [Pi.add_apply, Finsupp.add_apply, tallyAt_apply] at h
    by_cases hp : g = payCell (peer p.1 c) p
    · exact ⟨p, List.mem_cons_self, hp⟩
    · rw [if_neg (fun h' => hp h'.1), Nat.add_zero] at h
      obtain ⟨p', hp', e⟩ := ih h
      exact ⟨p', List.mem_cons_of_mem _ hp', e⟩

/-- A device may wait at a cell while everything it still owes lies above that cell's level. -/
theorem mayWait_owe (c : Dev nD) (sm : SemLoc sig) (l : List Pay) (h : ∀ p ∈ l, semLv sm < semLv (paySem p)) :
    (levAts L lv : sProp 𝕄) ⊢ MayWait (c : Thread nD τ) sm () (owe c l) :=
  MayOwe.of_cut (L := L) (lev := lv) (semLv sm)
    (fun p hp => by rw [Finset.mem_singleton.mp hp, L_tc]; exact Finset.mem_singleton_self _)
    (fun g u hg => by obtain ⟨p, -, rfl⟩ := owe_pos hg; rw [L_tc]; exact Finset.mem_singleton_self _)
    (fun p hp => by rw [Finset.mem_singleton.mp hp]; exact Nat.le_refl _)
    (fun g u hg => by obtain ⟨p, hp, rfl⟩ := owe_pos hg; exact h p hp)

end Cert.Gather
-- ==== Proof.Steps.lean ====
/-
The kernel's operations as steps of the protocol, each stated once: signal, barrier wait, load, send, the waits, and
the copy of a piece from the scratch buffer into the result buffer.
-/
module

public import proofs.«01_k».proof.Proof.Sched
public import Idealize.ShloMosaic.Lib.Pipeline.ValueKit.Geometry

@[expose] public section

set_option maxRecDepth 16384

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Views: a slice of `n` full rows -/

/-- Rows `off` on of the result buffer, the scratch buffer, the argument. -/
abbrev outS {n : ℕ} (off : Fin 2 → ℕ) (inb : ∀ i, off i + (blk n).size i ≤ S8192x1024.size i) : Memref sig .tc .vmem (blk n) .bf16 :=
  (Memref.whole cc0_stg0_0 : Memref sig .tc .vmem S8192x1024 .bf16).slice (Rect.unit (s := S8192x1024) off (blk n).size inb) (fun _ => rfl)
abbrev xvS {n : ℕ} (off : Fin 2 → ℕ) (inb : ∀ i, off i + (blk n).size i ≤ S4096x1024.size i) : Memref sig .tc .vmem (blk n) .bf16 :=
  (Memref.whole cc0_scratch0 : Memref sig .tc .vmem S4096x1024 .bf16).slice (Rect.unit (s := S4096x1024) off (blk n).size inb) (fun _ => rfl)
abbrev argS {n : ℕ} (off : Fin 2 → ℕ) (inb : ∀ i, off i + (blk n).size i ≤ S4096x1024.size i) : Memref sig .tc .hbm (blk n) .bf16 :=
  (Memref.whole main_arg0 : Memref sig .tc .hbm S4096x1024 .bf16).slice (Rect.unit (s := S4096x1024) off (blk n).size inb) (fun _ => rfl)

theorem unit_rows {A a n : ℕ} (inb : ∀ i, (![a, 0] : Fin 2 → ℕ) i + (blk n).size i ≤ (⟨2, ![A, 1024]⟩ : Shape).size i) :
    (Rect.unit (s := ⟨2, ![A, 1024]⟩) ![a, 0] (blk n).size inb).set = rows A a n := by
  ext i
  rw [Rect.mem_set_unit, mem_rows]
  refine ⟨fun h => h 0, fun h k => ?_⟩
  match k with
  | ⟨0, _⟩ => exact h
  | ⟨1, _⟩ => exact ⟨Nat.zero_le _, by have h1 := (i 1).isLt; show (i 1).val < 0 + 1024; simpa using h1⟩

theorem outS_set {a n : ℕ} (inb) : (outS (n := n) ![a, 0] inb).view.set = rows 8192 a n :=
  (View.set_slice_whole cc0_stg0_0 _).trans (unit_rows inb)
theorem xvS_set {a n : ℕ} (inb) : (xvS (n := n) ![a, 0] inb).view.set = rows 4096 a n :=
  (View.set_slice_whole cc0_scratch0 _).trans (unit_rows inb)
theorem argS_set {a n : ℕ} (inb) : (argS (n := n) ![a, 0] inb).view.set = rows 4096 a n :=
  (View.set_slice_whole main_arg0 _).trans (unit_rows inb)

/-- Sending rows to the same rows of another device leaves them as they were sent. -/
theorem outS_write_read {a n : ℕ} (inb) (fd fs : S8192x1024.Idx → Elt F .bf16) (i : S8192x1024.Idx) (hi : i ∈ rows 8192 a n) :
    (outS (n := n) ![a, 0] inb).view.write (Elt F) fd ((outS (n := n) ![a, 0] inb).view.read (Elt F) fs) Finset.univ i = fs i := by
  rw [← outS_set inb] at hi
  obtain ⟨x, -, rfl⟩ := Finset.mem_map.mp hi
  exact View.write_emb_of_mem _ _ (Finset.mem_univ x)

/-- Loading rows of the argument into the same rows of the scratch buffer. -/
theorem xvS_write_read {a n : ℕ} (inb) (fd fs : S4096x1024.Idx → Elt F .bf16) (i : S4096x1024.Idx) (hi : i ∈ rows 4096 a n) :
    (xvS (n := n) ![a, 0] inb).view.write (Elt F) fd ((argS (n := n) ![a, 0] inb).view.read (Elt F) fs) Finset.univ i = fs i := by
  rw [← xvS_set inb] at hi
  obtain ⟨x, -, rfl⟩ := Finset.mem_map.mp hi
  exact View.write_emb_of_mem _ _ (Finset.mem_univ x)

/-- Storing into rows `b` on of the result buffer what rows `a` on of the scratch buffer hold. -/
theorem cast_write_read {a b n : ℕ} (inb inb') (fd : S8192x1024.Idx → Elt F .bf16) (fs : S4096x1024.Idx → Elt F .bf16)
    (i : S8192x1024.Idx) (i' : S4096x1024.Idx) (hi : i ∈ rows 8192 b n) (h0 : (i' 0).val + b = (i 0).val + a) (h1 : (i' 1).val = (i 1).val) :
    (outS (n := n) ![b, 0] inb).view.write (Elt F) fd ((xvS (n := n) ![a, 0] inb').view.read (Elt F) fs) Finset.univ i = fs i' := by
  rw [← outS_set inb] at hi
  obtain ⟨x, -, rfl⟩ := Finset.mem_map.mp hi
  refine (View.write_emb_of_mem _ _ (Finset.mem_univ x)).trans (congrArg fs (funext fun k => Fin.ext ?_))
  have e0 : ((outS (n := n) ![b, 0] inb).view.emb x 0).val = b + (x 0).val := ValueKit.view_emb_slice_whole_unit_val cc0_stg0_0 _ _ _ _ _
  have e1 : ((outS (n := n) ![b, 0] inb).view.emb x 1).val = 0 + (x 1).val := ValueKit.view_emb_slice_whole_unit_val cc0_stg0_0 _ _ _ _ _
  have e : ((xvS (n := n) ![a, 0] inb').view.emb x k).val = (![a, 0] : Fin 2 → ℕ) k + (x k).val := ValueKit.view_emb_slice_whole_unit_val cc0_scratch0 _ _ _ _ _
  refine e.trans ?_
  match k with
  | ⟨0, _⟩ => show a + (x 0).val = (i' 0).val; omega
  | ⟨1, _⟩ => show 0 + (x 1).val = (i' 1).val; omega

/-! ## The shared records -/

/-- A device's cells: the barrier's, then the DMA semaphores from the first load's on. -/
def csem (k : Fin 36) : SemLoc sig := if k = 0 then .reg barS else .dma k
abbrev kcell (ck : Dev nD × Fin 36) : GSem nD τ sig := ((ck.1 : Thread nD τ), csem ck.2)

theorem kcell_bar (c : Dev nD) : kcell (c, 0) = barC c := rfl
theorem kcell_dma (c : Dev nD) {k : Fin 36} (h : k ≠ 0) : kcell (c, k) = dmaC c k := by
  show ((c : Thread nD τ), csem k) = _; unfold csem; rw [if_neg h]

/-- Every cell's invariant, that every cell's round 0 is reached, and the levels: what every device knows. -/
def records (K : Dev nD × Fin 36 → ℕ) : sProp 𝕄 :=
  iprop((bigSep Finset.univ fun ck : Dev nD × Fin 36 => cellInv ER (Rd m) (K ck) (kcell ck))
    ∗ (bigSep Finset.univ fun ck : Dev nD × Fin 36 => reached ER (kcell ck) 0) ∗ levAts L lv)

instance records_persistent (K : Dev nD × Fin 36 → ℕ) : BI.Persistent (records m K) := by unfold records; infer_instance

variable (K : Dev nD × Fin 36 → ℕ)

theorem inv_at (ck : Dev nD × Fin 36) : records m K ⊢ cellInv ER (Rd m) (K ck) (kcell ck) := by
  unfold records; iintro ⟨H, -⟩
  iapply (show (bigSep Finset.univ fun ck : Dev nD × Fin 36 => (cellInv ER (Rd m) (K ck) (kcell ck) : sProp 𝕄)) ⊢ cellInv ER (Rd m) (K ck) (kcell ck) from
    bigSep_elim (Finset.mem_univ ck))
  iexact H
theorem rch_at (ck : Dev nD × Fin 36) : records m K ⊢ reached ER (kcell ck) 0 := by
  unfold records; iintro ⟨-, H, -⟩
  iapply (show (bigSep Finset.univ fun ck : Dev nD × Fin 36 => (reached ER (kcell ck) 0 : sProp 𝕄)) ⊢ reached ER (kcell ck) 0 from
    bigSep_elim (Finset.mem_univ ck))
  iexact H
theorem inv_bar (c : Dev nD) : records m K ⊢ cellInv ER (Rd m) (K (c, 0)) (barC c) := inv_at m K (c, 0)
theorem inv_dma (c : Dev nD) {k : Fin 36} (h : k ≠ 0) : records m K ⊢ cellInv ER (Rd m) (K (c, k)) (dmaC c k) := by
  rw [← kcell_dma c h]; exact inv_at m K (c, k)
theorem rch_bar (c : Dev nD) : records m K ⊢ reached ER (barC c) 0 := rch_at m K (c, 0)
theorem rch_dma (c : Dev nD) {k : Fin 36} (h : k ≠ 0) : records m K ⊢ reached ER (dmaC c k) 0 := by
  rw [← kcell_dma c h]; exact rch_at m K (c, k)
theorem rec_lev : records m K ⊢ levAts L lv := by
  unfold records; iintro ⟨-, -, H⟩; iexact H

/-! ## What a device holds of a transfer, by stage -/

/-- What it owes, whatever it has waited for. -/
def owesE (c : Dev nD) (l : List Pay) : sProp 𝕄 := iprop(∃ W, owes (c : Thread nD τ) (owe c l) W)

/-- A DMA in flight: its credit and the position at its cell. -/
def pend (c : Dev nD) (k : DmaSem sig) : sProp 𝕄 := iprop(cred (tallyAt (dmaC c k) () (dmaAmt k)) ∗ atPos ER (dmaC c k) 0 ∅ 0)
def loadTodo (c : Dev nD) (j : Fin 5) : sProp 𝕄 :=
  iprop(dutyTok ER (dmaC c (loadIx j)) 0 (0 : Fin 3) ∗ atPos ER (dmaC c (loadIx j)) 0 ∅ 0)
def sendTodo (c : Dev nD) (a : Fin 3) (j : Fin 5) : sProp 𝕄 :=
  iprop(dutyTok ER (dmaC c (sendIx a j)) 0 (0 : Fin 3) ∗ dutyTok ER (dmaC (peer a c) (recvIx a j)) 0 (0 : Fin 3) ∗ atPos ER (dmaC c (sendIx a j)) 0 ∅ 0)
/-- A cell done with: its counter, at zero. -/
abbrev zero (c : Dev nD) (k : DmaSem sig) : sProp 𝕄 := semVal (dmaC c k) 0

abbrev 𝒱₀ : Variants := Variants.none

/-- The step's goal, at device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A DMA wait: the payload and the counter at zero. -/
theorem step_wait (c : Dev nD) (k : DmaSem sig) (hk : k ≠ 0) (l : List Pay) (hl : ∀ p ∈ l, semLv (.dma k) < semLv (paySem p))
    {sm : DmaSem sig} (hsm : sm = k) {sp sp' : Space} {s s' : Shape} {e e' : EltTy}
    {src : Memref sig .tc sp' s' e'} {dst : Memref sig .tc sp s e} {hsrc hdst} (ha : dst.view.dmaCredit = dmaAmt k)
    {α : Type} {Q : α → sProp 𝕄} {kont : PUnit → Prog (TpuEff nD τ sig (Elt F) Λ₀ .tc) α} :
    iprop(records m K ∗ pend c k ∗ owesE c l)
      ⊢ iprop(((owesE c l ∗ zero c k ∗ (Rd m).payload (dmaC c k) 0 0) -∗ wpc c (kont ⟨⟩) Q)
          -∗ wpc c (.op (.waitDma2 sm src dst hsrc hdst) kont) Q) := by
  subst hsm
  unfold pend owesE
  iintro ⟨#HR, ⟨Hc, Hat⟩, ⟨%W, Ho⟩⟩ Hk
  iapply (Rounds.wp_wait_rest_token 𝒱₀ ER (Rd m) (c : Thread nD τ) none (κ := K (c, sm))
      (wpE_waitDma2_eq 𝒱₀ (c : Thread nD τ) none Set.univ) (Set.mem_univ _) () (O := owe c l) (W := W) (R := 0) (m := 0) (T := ∅)
      (by rw [Nat.zero_add, expect_dma m c hk, ha])) $$ [Hc Ho Hat]
  · isplitr; · iapply (inv_dma m K c hk); iexact HR
    isplitl [Hc]; · rw [ha]; iexact Hc
    isplitl [Ho]; · iexact Ho
    isplitr; · iapply (mayWait_owe c (.dma sm) l hl); iapply (rec_lev m K); iexact HR
    iexact Hat
  iintro ⟨Ho, Hat, -, Hpay⟩
  ihave Hp := (Entails.of_eq (rest_dma m c hk)) $$ Hpay
  imod (Rounds.cell_close ER (Rd m) (Set.mem_univ (K (c, sm))) (fun h => h) (R := 0 + 1) (duties_later m (dmaC c sm))) $$ [Hat] with Hz
  · isplitr; · iapply (inv_dma m K c hk); iexact HR
    iexact Hat
  iapply Hk
  isplitl [Ho]; · iexists _; iexact Ho
  isplitl [Hz]; · iexact Hz
  iexact Hp

/-- The wait for a transfer's rows to have landed. -/
theorem step_recv (c : Dev nD) (a : Fin 3) (j : Fin 5) (l : List Pay) (hl : ∀ p ∈ l, semLv (.dma (recvIx a j)) < semLv (paySem p))
    {sm : DmaSem sig} (hsm : sm = recvIx a j) {sp' : Space} {s' : Shape} {e' : EltTy} {src : Memref sig .tc sp' s' e'}
    {n : ℕ} (hn : n = len a j) {off : Fin 2 → ℕ} {inb} {hsrc hdst}
    {α : Type} {Q : α → sProp 𝕄} {kont : PUnit → Prog (TpuEff nD τ sig (Elt F) Λ₀ .tc) α} :
    iprop(records m K ∗ pend c (recvIx a j) ∗ owesE c l)
      ⊢ iprop(((owesE c l ∗ zero c (recvIx a j) ∗ recvPay m c a j) -∗ wpc c (kont ⟨⟩) Q)
          -∗ wpc c (.op (.waitDma2 sm src (outS (n := n) off inb) hsrc hdst) kont) Q) := by
  subst hn; rw [← payload_recv m c a j 0]
  exact step_wait m K c (recvIx a j) (recvIx_ne a j) l hl hsm (dmaAmt_recv a j).symm

/-- The wait for a transfer's source rows to have been read. -/
theorem step_sent (c : Dev nD) (a : Fin 3) (j : Fin 5) {sm : DmaSem sig} (hsm : sm = sendIx a j)
    {sp' : Space} {s' : Shape} {e' : EltTy} {src : Memref sig .tc sp' s' e'}
    {n : ℕ} (hn : n = len a j) {off : Fin 2 → ℕ} {inb} {hsrc hdst}
    {α : Type} {Q : α → sProp 𝕄} {kont : PUnit → Prog (TpuEff nD τ sig (Elt F) Λ₀ .tc) α} :
    iprop(records m K ∗ pend c (sendIx a j) ∗ owesE c [])
      ⊢ iprop(((owesE c [] ∗ zero c (sendIx a j) ∗ sendPay m c a j) -∗ wpc c (kont ⟨⟩) Q)
          -∗ wpc c (.op (.waitDma2 sm src (outS (n := n) off inb) hsrc hdst) kont) Q) := by
  subst hn; rw [← payload_send m c a j 0]
  exact step_wait m K c (sendIx a j) (sendIx_ne a j) [] (fun p hp => absurd hp List.not_mem_nil) hsm (dmaAmt_send a j).symm

/-- The wait for a load. -/
theorem step_loaded (c : Dev nD) (j : Fin 5) (l : List Pay) (hl : ∀ p ∈ l, semLv (.dma (loadIx j)) < semLv (paySem p))
    {sm : DmaSem sig} (hsm : sm = loadIx j) {sp' : Space} {s' : Shape} {e' : EltTy} {src : Memref sig .tc sp' s' e'}
    {n : ℕ} (hn : n = loadLen j) {off : Fin 2 → ℕ} {inb} {hsrc hdst}
    {α : Type} {Q : α → sProp 𝕄} {kont : PUnit → Prog (TpuEff nD τ sig (Elt F) Λ₀ .tc) α} :
    iprop(records m K ∗ pend c (loadIx j) ∗ owesE c l)
      ⊢ iprop(((owesE c l ∗ zero c (loadIx j) ∗ loadPay m c j) -∗ wpc c (kont ⟨⟩) Q)
          -∗ wpc c (.op (.waitDma2 sm src (xvS (n := n) off inb) hsrc hdst) kont) Q) := by
  subst hn; rw [← payload_load m c j 0]
  exact step_wait m K c (loadIx j) (loadIx_ne j) l hl hsm (dmaAmt_load j).symm

/-- A load started. -/
theorem step_load (c : Dev nD) (j : Fin 5) {sm : DmaSem sig} (hsm : sm = loadIx j)
    {n : ℕ} (hn : n = loadLen j) {off : Fin 2 → ℕ} (hoff : off = ![loadLo c j, 0]) {inb inb'} {hsrc hdst hsem}
    {α : Type} {Q : α → sProp 𝕄} {kont : PUnit → Prog (TpuEff nD τ sig (Elt F) Λ₀ .tc) α} :
    iprop(records m K ∗ loadTodo c j ∗ (∃ f, xvPts c (loadLo c j) (loadLen j) f) ∗ argPts m c (loadLo c j) (loadLen j))
      ⊢ iprop((pend c (loadIx j) -∗ wpc c (kont ⟨⟩) Q)
          -∗ wpc c (.op (.enqueueDma (argS (n := n) off inb) (.here (xvS (n := n) off inb')) (.dma sm) hsrc hdst hsem) kont) Q) := by
  subst hsm hn hoff
  unfold loadTodo pend
  iintro ⟨#HR, ⟨Htok, Hat⟩, ⟨%f, Hx⟩, Ha⟩ Hk
  iapply (Rounds.wp_copy_pointsTo 𝒱₀ ER (Rd m) (c : Thread nD τ) none (κ := K (c, loadIx j)) (src := argS (n := loadLen j) ![loadLo c j, 0] inb) (dst := xvS (n := loadLen j) ![loadLo c j, 0] inb')
      (sem := .dma (loadIx j)) (r := 0) (d := 0) (q := fullShare)
      (fs := m (argL c)) (fd := f) (by rw [duties_dma m c (loadIx_ne j)]; exact Finset.mem_singleton_self _) () (dmaAmt (loadIx j))
      (dmaAmt_load j).symm rfl
      (by
        rw [payload_load, xvS_set, argS_set]; unfold loadPay
        exact sep_mono_left (Entails.of_eq (pointsTo_congr fun i hi => xvS_write_read _ _ _ i hi)))) $$ [Htok Hx Ha]
  · isplitr; · iapply (inv_dma m K c (loadIx_ne j)); iexact HR
    isplitl [Ha]; · rw [argS_set]; iexact Ha
    isplitl [Hx]; · rw [xvS_set]; iexact Hx
    isplitl [Htok]; · iexact Htok
    iapply (rch_dma m K c (loadIx_ne j)); iexact HR
  iintro Hc
  iapply Hk
  isplitl [Hc]; · iexact Hc
  iexact Hat

/-- A remote transfer started: the rows at their final contents go, the partner's same rows will hold them. -/
theorem step_send (c n' : Dev nD) (a : Fin 3) (j : Fin 5) (hdev : n' = peer a c) {l₀ : List Pay} (l : List Pay) (hl : l₀ = (a, some j) :: l)
    {sS sR : DmaSem sig} (hS : sS = sendIx a j) (hR : sR = recvIx a j)
    {n : ℕ} (hn : n = len a j) {off : Fin 2 → ℕ} (hoff : off = ![lo c a j, 0]) {inb inb'} {hsc hsrc hdst hsem}
    {α : Type} {Q : α → sProp 𝕄} {kont : PUnit → Prog (TpuEff nD τ sig (Elt F) Λ₀ .tc) α} :
    iprop(records m K ∗ sendTodo c a j ∗ sendPay m c a j ∗ landAny (peer a c) c a j ∗ owesE c l₀)
      ⊢ iprop(((pend c (sendIx a j) ∗ owesE c l) -∗ wpc c (kont ⟨⟩) Q)
          -∗ wpc c (.op (.enqueueDma (outS (n := n) off inb) (.remote (Dev.tc n' : Thread nD τ) (outS (n := n) off inb') (.dma sS) hsc) (.dma sR) hsrc hdst hsem) kont) Q) := by
  subst hdev hl hS hR hn hoff
  unfold sendTodo pend landAny owesE
  iintro ⟨#HR, ⟨HtS, HtR, Hat⟩, Hs, ⟨%f, Hd⟩, ⟨%W, Ho⟩⟩ Hk
  iapply (Rounds.wp_send_pointsTo 𝒱₀ ER (Rd m) (c : Thread nD τ) none (κ₁ := K (c, sendIx a j)) (κ₂ := K (peer a c, recvIx a j)) (c' := (Dev.tc (peer a c) : Thread nD τ))
      (src := outS (n := len a j) ![lo c a j, 0] inb) (dst := outS (n := len a j) ![lo c a j, 0] inb') (sS := .dma (sendIx a j)) (sem := .dma (recvIx a j))
      (r₁ := 0) (r₂ := 0) (d₁ := 0) (d₂ := 0) (q := shr a j) (fs := fin m c) (fd := f)
      (by rw [duties_dma m c (sendIx_ne a j)]; exact Finset.mem_singleton_self _)
      (by rw [duties_dma m _ (recvIx_ne a j)]; exact Finset.mem_singleton_self _)
      () () (crOut (len a j)) rfl (dmaAmt_send a j) (dmaAmt_recv a j) (owe c l) rfl (W := W)
      (by rw [payload_send, outS_set]; exact BI.Entails.refl _)
      (by
        rw [payload_recv, outS_set]; unfold recvPay; rw [peer_peer]
        refine Entails.of_eq (pointsTo_congr fun i hi => (outS_write_read _ _ _ i hi).trans ?_)
        have hi' := mem_rows.mp hi
        show m (argL (src c ((i 0).val / 64))) (argIdx i) = m (argL (src (peer a c) ((i 0).val / 64))) (argIdx i)
        rw [src_land (peer a c) a j (i 0).val (i 0).isLt (by rw [peer_peer]; exact hi'.1) (by rw [peer_peer]; exact hi'.2), peer_peer]))
    $$ [HtS HtR Hs Hd Ho]
  · isplitr; · iapply (inv_dma m K c (sendIx_ne a j)); iexact HR
    isplitr; · iapply (inv_dma m K (peer a c) (recvIx_ne a j)); iexact HR
    isplitl [Hs]; · rw [outS_set]; unfold sendPay; iexact Hs
    isplitl [Hd]; · rw [outS_set]; iexact Hd
    isplitl [Ho]; · iexact Ho
    isplitl [HtS]; · iexact HtS
    isplitr; · iapply (rch_dma m K c (sendIx_ne a j)); iexact HR
    isplitl [HtR]; · iexact HtR
    iapply (rch_dma m K (peer a c) (recvIx_ne a j)); iexact HR
  iintro ⟨Hc, Ho⟩
  iapply Hk
  isplitl [Hc Hat]
  · isplitl [Hc]; · rw [dmaAmt_send]; iexact Hc
    iexact Hat
  iexists W; iexact Ho

/-- A signal to a partner: it may now write the five places its transfers land at. -/
theorem step_signal (c n' : Dev nD) (a : Fin 3) (hdev : n' = peer a c) {l₀ : List Pay} (l : List Pay) (hl : l₀ = (a, none) :: l)
    {sm : Sem sig} (hsm : sm = barS) {w : ℕ} (hw : w = 1)
    {α : Type} {Q : α → sProp 𝕄} {kont : PUnit → Prog (TpuEff nD τ sig (Elt F) Λ₀ .tc) α} :
    iprop(records m K ∗ dutyTok ER (barC (peer a c)) 0 a ∗ (bigSep Finset.univ fun j => landAny (F := F) c (peer a c) a j) ∗ owesE c l₀)
      ⊢ iprop((owesE c l -∗ wpc c (kont ⟨⟩) Q)
          -∗ wpc c (.op (.semSignal (Dev.tc n' : Thread nD τ) sm w) kont) Q) := by
  subst hdev hl hsm hw
  unfold owesE
  iintro ⟨#HR, Htok, Hl, ⟨%W, Ho⟩⟩ Hk
  iapply (Rounds.wp_signal 𝒱₀ ER (Rd m) (c : Thread nD τ) none (dst := (peer a c : Thread nD τ)) (κ := K (peer a c, 0))
      (d := a) (by rw [duties_bar]; exact Finset.mem_univ _) (amount_bar m (peer a c) a) () (owe c l) rfl) $$ [Htok Hl Ho]
  · isplitr; · iapply (inv_bar m K (peer a c)); iexact HR
    isplitl [Ho]; · iexact Ho
    isplitl [Htok]; · iexact Htok
    isplitl [Hl]; · rw [payload_bar]; unfold barPay; rw [peer_peer]; iexact Hl
    iapply (rch_bar m K (peer a c)); iexact HR
  iintro Ho
  iapply Hk
  iexists W; iexact Ho

/-- The barrier wait: every partner's landing places come with it. -/
theorem step_barrier (c : Dev nD) (l : List Pay) (hl : ∀ p ∈ l, semLv (.reg barS) < semLv (paySem p))
    {sm : Sem sig} (hsm : sm = barS) {w : ℕ} (hw : w = 3)
    {α : Type} {Q : α → sProp 𝕄} {kont : PUnit → Prog (TpuEff nD τ sig (Elt F) Λ₀ .tc) α} :
    iprop(records m K ∗ cred (tallyAt (barC c) () 3) ∗ atPos ER (barC c) 0 ∅ 0 ∗ owesE c l)
      ⊢ iprop(((owesE c l ∗ semVal (barC c) 0 ∗ barPay c 0 ∗ barPay c 1 ∗ barPay c 2) -∗ wpc c (kont ⟨⟩) Q)
          -∗ wpc c (.op (.semWait sm w) kont) Q) := by
  subst hsm hw
  unfold owesE
  iintro ⟨#HR, Hc, Hat, ⟨%W, Ho⟩⟩ Hk
  iapply (Rounds.wp_wait_rest_token 𝒱₀ ER (Rd m) (c : Thread nD τ) none (κ := K (c, 0))
      (wpE_semWait_eq 𝒱₀ (c : Thread nD τ) none Set.univ) (Set.mem_univ _) () (O := owe c l) (W := W) (R := 0) (m := 0) (T := ∅)
      (by rw [Nat.zero_add, expect_bar])) $$ [Hc Ho Hat]
  · isplitr; · iapply (inv_bar m K c); iexact HR
    isplitl [Hc]; · iexact Hc
    isplitl [Ho]; · iexact Ho
    isplitr; · iapply (mayWait_owe c (.reg barS) l hl); iapply (rec_lev m K); iexact HR
    iexact Hat
  iintro ⟨Ho, Hat, -, Hpay⟩
  ihave Hp := (Entails.of_eq (rest_bar m c)) $$ Hpay
  imod (Rounds.cell_close ER (Rd m) (Set.mem_univ (K (c, 0))) (fun h => h) (R := 0 + 1) (duties_later m (barC c))) $$ [Hat] with Hz
  · isplitr; · iapply (inv_bar m K c); iexact HR
    iexact Hat
  iapply Hk
  isplitl [Ho]; · iexists _; iexact Ho
  isplitl [Hz]; · iexact Hz
  iexact Hp

/-- A piece copied: from its load's rows of the scratch buffer into its own rows of the result buffer. -/
theorem step_cast (c : Dev nD) (k : Fin 8) (t : Fin 5) (ht : t = ownLoad k) {n : ℕ} (hn : n = ownLen k)
    {off off' : Fin 2 → ℕ} (hoff : off = ![ownLo c k, 0]) (hoff' : off' = ![4096 * xb c + ownLo c k, 0]) {inb inb'} {h₁ h₂ h₃ h₄}
    {α : Type} {Q : α → sProp 𝕄} {kont : PUnit → Prog (TpuEff nD τ sig (Elt F) Λ₀ .tc) α} :
    iprop(xvPts c (loadLo c t) (loadLen t) (xvFin m c) ∗ (∃ f, outPts c (4096 * xb c + ownLo c k) (ownLen k) fullShare f))
      ⊢ iprop(((xvPts c (loadLo c t) (loadLen t) (xvFin m c) ∗ outPts c (4096 * xb c + ownLo c k) (ownLen k) fullShare (fin m c)) -∗ wpc c (kont ⟨⟩) Q)
          -∗ wpc c (.op (.load (Memref.whole cc0_scratch0 : Memref sig .tc .vmem S4096x1024 .bf16) (Rect.unit (s := S4096x1024) off (blk n).size inb).toLoadRect h₁) fun v =>
              .op (.load (Memref.whole cc0_stg0_0 : Memref sig .tc .vmem S8192x1024 .bf16) (Rect.unit (s := S8192x1024) off' (blk n).size inb').toLoadRect h₂) fun _ =>
              .op (.store (Memref.whole cc0_stg0_0 : Memref sig .tc .vmem S8192x1024 .bf16) (Rect.unit (s := S8192x1024) off' (blk n).size inb') v Finset.univ h₃ h₄) kont) Q) := by
  subst ht hn hoff hoff'
  iintro ⟨Hx, ⟨%f, Ho⟩⟩ Hk
  have hsub := own_sub_load c k
  iapply (wp_load_rect 𝒱₀ (c : Thread nD τ) none Set.univ (m := (Memref.whole cc0_scratch0 : Memref sig .tc .vmem S4096x1024 .bf16))
    (r := Rect.unit (s := S4096x1024) ![ownLo c k, 0] (blk (ownLen k)).size inb)
    (S := rows 4096 (loadLo c (ownLoad k)) (loadLen (ownLoad k)))
    (((xvS_set inb).trans_subset (rows_subset hsub.1 hsub.2)))) $$ Hx
  iintro Hx
  iapply (wp_load_rect 𝒱₀ (c : Thread nD τ) none Set.univ (m := (Memref.whole cc0_stg0_0 : Memref sig .tc .vmem S8192x1024 .bf16))
    (r := Rect.unit (s := S8192x1024) ![4096 * xb c + ownLo c k, 0] (blk (ownLen k)).size inb')
    (S := rows 8192 (4096 * xb c + ownLo c k) (ownLen k)) (outS_set inb').subset) $$ Ho
  iintro Ho
  iapply (wp_store 𝒱₀ (c : Thread nD τ) none Set.univ (m := (Memref.whole cc0_stg0_0 : Memref sig .tc .vmem S8192x1024 .bf16))
    (r := Rect.unit (s := S8192x1024) ![4096 * xb c + ownLo c k, 0] (blk (ownLen k)).size inb') (Mk := Finset.univ)
    (S := rows 8192 (4096 * xb c + ownLo c k) (ownLen k)) (outS_set inb').subset) $$ Ho
  iintro Ho
  iapply Hk
  isplitl [Hx]; · iexact Hx
  iapply (Entails.of_eq (pointsTo_congr (ℓ := outL c) (I := rows 8192 (4096 * xb c + ownLo c k) (ownLen k)) (q := fullShare) fun i hi => ?_)) $$ Ho
  have hi' := mem_rows.mp hi
  have hlt := own_lt c k
  refine (cast_write_read inb' inb f (xvFin m c) i (argIdx i) hi ?_ rfl).trans ?_
  · show (i 0).val % 4096 + (4096 * xb c + ownLo c k) = (i 0).val + ownLo c k
    have : (i 0).val / 4096 = xb c := by omega
    omega
  · show m (argL c) (argIdx i) = m (argL (src c ((i 0).val / 64))) (argIdx i)
    rw [src_own c (i 0).val (by omega) (by omega)]

end Cert.Gather
-- ==== Proof.Parts.lean ====
/-
The kernel body's parts, one lemma each: from what the part takes (the resources of the transfers it starts or waits
for) to what it leaves.
-/
module

public import proofs.«01_k».proof.Proof.Steps
public import proofs.«01_k».proof.Proof.Gen.KernelIdeal.Skeleton

@[expose] public section

set_option maxRecDepth 65536

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pieces in passing -/

/-- An own piece before and after it is written. -/
abbrev ownAny (c : Dev nD) (k : Fin 8) : sProp 𝕄 := iprop(∃ f, outPts c (4096 * xb c + ownLo c k) (ownLen k) fullShare f)
abbrev ownPts (c : Dev nD) (k : Fin 8) : sProp 𝕄 := outPts c (4096 * xb c + ownLo c k) (ownLen k) fullShare (fin m c)

/-- The first five own pieces are what the transfers along x send. -/
theorem own_send (c : Dev nD) (j : Fin 5) (k : Fin 8) (h : k = j.castLE (by decide)) : ownPts m c k = sendPay m c 0 j := by
  subst h
  match j with
  | 0 => rfl | 1 => rfl | 2 => rfl | 3 => rfl | 4 => rfl

theorem outPts_at {c : Dev nD} {a a' n n' : ℕ} (q : PosShare TreeShare) (f : Buf (Elt F) (outL c)) (h : a = a' ∧ n = n') :
    outPts c a n q f ⊢ outPts c a' n' q f := by
  obtain ⟨rfl, rfl⟩ := h; exact BI.Entails.refl _

/-- A chunk that landed along x is passed on along y and along z, half a share each. -/
theorem recv_split (c : Dev nD) (j : Fin 5) (hj : j ≠ 4) : recvPay m c 0 j ⊢ iprop(sendPay m c 1 j ∗ sendPay m c 2 j) := by
  have hs : shr 1 j = fullShare.left ∧ shr 2 j = fullShare.right :=
    match j, hj with
    | 0, _ => ⟨rfl, rfl⟩ | 1, _ => ⟨rfl, rfl⟩ | 2, _ => ⟨rfl, rfl⟩ | 3, _ => ⟨rfl, rfl⟩ | 4, h => absurd rfl h
  have h1 := lo_y_eq_land c j hj
  have h2 := lo_y_eq_z c j hj
  unfold recvPay sendPay
  rw [hs.1, hs.2]
  refine ((pointsTo_share (PosShare.mem_left_op_right fullShare)).1).trans (BI.sep_mono ?_ ?_)
  · exact outPts_at _ _ ⟨h1.1.symm, h1.2.symm⟩
  · exact outPts_at _ _ ⟨h1.1.symm.trans h2.1, h1.2.symm.trans h2.2⟩
theorem recv_y4 (c : Dev nD) : recvPay m c 2 2 ⊢ sendPay m c 1 4 := outPts_at _ _ ⟨(lo_y4 c).1.symm, (lo_y4 c).2.symm⟩
theorem recv_z4 (c : Dev nD) : recvPay m c 1 3 ⊢ sendPay m c 2 4 := outPts_at _ _ ⟨(lo_z4 c).1.symm, (lo_z4 c).2.symm⟩

/-- The five places a device's partner along an axis will land transfers at. -/
def barGive (c : Dev nD) (a : Fin 3) : sProp 𝕄 := bigSep Finset.univ fun j : Fin 5 => landAny (F := F) c (peer a c) a j

variable (K : Dev nD × Fin 36 → ℕ)

theorem wpc_ret (c : Dev nD) {α : Type} (a : α) (Q : α → sProp 𝕄) : Q a ⊢ wpc c (.ret a) Q := by
  show _ ⊢ wp frame (wpE (defs₀ (F := F)) 𝒱₀ (c : Thread nD τ) none) Set.univ (Prog.ret a) Q
  rw [wp_ret]; iintro H; imodintro; iexact H

/-! ## The parts -/

theorem part2_wp (c : Dev nD) {v2 v25 v28 v31 v32 v34 : BitVec 32} {Q : (Σ' (v35 : BitVec 32) (v36 : BitVec 32) (v38 : BitVec 32), Sems sig S_) → sProp 𝕄} :
    iprop(records m K ∗ loadTodo c 0 ∗ (∃ f, xvPts c (loadLo c 0) (loadLen 0) f) ∗ argPts m c (loadLo c 0) (loadLen 0) ∗ loadTodo c 1 ∗ (∃ f, xvPts c (loadLo c 1) (loadLen 1) f) ∗ argPts m c (loadLo c 1) (loadLen 1) ∗ loadTodo c 2 ∗ (∃ f, xvPts c (loadLo c 2) (loadLen 2) f) ∗ argPts m c (loadLo c 2) (loadLen 2) ∗ loadTodo c 3 ∗ (∃ f, xvPts c (loadLo c 3) (loadLen 3) f) ∗ argPts m c (loadLo c 3) (loadLen 3) ∗ loadTodo c 4 ∗ (∃ f, xvPts c (loadLo c 4) (loadLen 4) f) ∗ argPts m c (loadLo c 4) (loadLen 4))
      ⊢ iprop((∀ w₁ w₂ w₃, (pend c (loadIx 0) ∗ pend c (loadIx 1) ∗ pend c (loadIx 2) ∗ pend c (loadIx 3) ∗ pend c (loadIx 4)) -∗ Q ⟨w₁, w₂, w₃, SemArray.scalar (sig.barrier 0 rfl)⟩)
          -∗ wpc c (k0_part2 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v25 v28 v31 v32 v34) Q) := by
  rw [k0_part2_eq_skeleton]; unfold k0_part2_skel
  simp only [semSignalWord, semWaitWord, Prog.lift, Prog.bind_op, Prog.bind_ret, Prog.pure_eq_ret]
  iintro ⟨#HR, Lt0, Lx0, A0, Lt1, Lx1, A1, Lt2, Lx2, A2, Lt3, Lx3, A3, Lt4, Lx4, A4⟩ Hk
  iapply (step_load m K c 0 rfl rfl (off1_eq c)) $$ [Lt0 Lx0 A0]
  · isplitr; · iexact HR
    isplitl [Lt0]; · iexact Lt0
    isplitl [Lx0]; · iexact Lx0
    iexact A0
  iintro Lp0
  iapply (step_load m K c 1 rfl rfl (off2_eq c)) $$ [Lt1 Lx1 A1]
  · isplitr; · iexact HR
    isplitl [Lt1]; · iexact Lt1
    isplitl [Lx1]; · iexact Lx1
    iexact A1
  iintro Lp1
  iapply (step_load m K c 2 rfl rfl (off3_eq c)) $$ [Lt2 Lx2 A2]
  · isplitr; · iexact HR
    isplitl [Lt2]; · iexact Lt2
    isplitl [Lx2]; · iexact Lx2
    iexact A2
  iintro Lp2
  iapply (step_load m K c 3 rfl rfl (off4_eq c)) $$ [Lt3 Lx3 A3]
  · isplitr; · iexact HR
    isplitl [Lt3]; · iexact Lt3
    isplitl [Lx3]; · iexact Lx3
    iexact A3
  iintro Lp3
  iapply (step_load m K c 4 rfl rfl (off5_eq c)) $$ [Lt4 Lx4 A4]
  · isplitr; · iexact HR
    isplitl [Lt4]; · iexact Lt4
    isplitl [Lx4]; · iexact Lx4
    iexact A4
  iintro Lp4
  iapply (wpc_ret c)
  iapply Hk
  isplitl [Lp0]; · iexact Lp0
  isplitl [Lp1]; · iexact Lp1
  isplitl [Lp2]; · iexact Lp2
  isplitl [Lp3]; · iexact Lp3
  iexact Lp4

theorem part3_wp (c : Dev nD) {v2 v5 v8 v21 v22 v23 v25 v36 : BitVec 32} {Q : (BitVec 32) → sProp 𝕄} :
    iprop(records m K ∗ dutyTok ER (barC (peer 0 c)) 0 0 ∗ barGive (F := F) c 0 ∗ dutyTok ER (barC (peer 1 c)) 0 1 ∗ barGive (F := F) c 1 ∗ dutyTok ER (barC (peer 2 c)) 0 2 ∗ barGive (F := F) c 2 ∗ cred (tallyAt (barC c) () 3) ∗ atPos ER (barC c) 0 ∅ 0 ∗ pend c (loadIx 0) ∗ ownAny c 0 ∗ owesE c pays)
      ⊢ iprop((∀ w, (owesE c (pays.drop 3) ∗ semVal (barC c) 0 ∗ barPay c 0 ∗ barPay c 1 ∗ barPay c 2 ∗ zero c (loadIx 0) ∗ argPts m c (loadLo c 0) (loadLen 0) ∗ xvPts c (loadLo c 0) (loadLen 0) (xvFin m c) ∗ sendPay m c 0 0) -∗ Q w)
          -∗ wpc c (k0_part3 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v8 v21 v22 v23 v25 v36 (SemArray.scalar (sig.barrier 0 rfl))) Q) := by
  rw [k0_part3_eq_skeleton]; unfold k0_part3_skel
  unfold barGive
  simp only [semSignalWord, semWaitWord, Prog.lift, Prog.bind_op, Prog.bind_ret, Prog.pure_eq_ret]
  iintro ⟨#HR, Bt0, Bl0, Bt1, Bl1, Bt2, Bl2, Bc, Ba, Lp0, W0, Ho⟩ Hk
  iapply (step_signal m K c _ 0 (dev1_eq c) (pays.drop 1) rfl rfl rfl) $$ [Bt0 Bl0 Ho]
  · isplitr; · iexact HR
    isplitl [Bt0]; · iexact Bt0
    isplitl [Bl0]; · iexact Bl0
    iexact Ho
  iintro Ho
  iapply (step_signal m K c _ 1 (dev2_eq c) (pays.drop 2) rfl rfl rfl) $$ [Bt1 Bl1 Ho]
  · isplitr; · iexact HR
    isplitl [Bt1]; · iexact Bt1
    isplitl [Bl1]; · iexact Bl1
    iexact Ho
  iintro Ho
  iapply (step_signal m K c _ 2 (dev3_eq c) (pays.drop 3) rfl rfl rfl) $$ [Bt2 Bl2 Ho]
  · isplitr; · iexact HR
    isplitl [Bt2]; · iexact Bt2
    isplitl [Bl2]; · iexact Bl2
    iexact Ho
  iintro Ho
  iapply (step_barrier m K c (pays.drop 3) (by decide) rfl rfl) $$ [Bc Ba Ho]
  · isplitr; · iexact HR
    isplitl [Bc]; · iexact Bc
    isplitl [Ba]; · iexact Ba
    iexact Ho
  iintro ⟨Ho, Zb, B0, B1, B2⟩
  iapply (step_loaded m K c 0 (pays.drop 3) (by decide) rfl rfl) $$ [Lp0 Ho]
  · isplitr; · iexact HR
    isplitl [Lp0]; · iexact Lp0
    iexact Ho
  unfold loadPay
  iintro ⟨Ho, Zl0, ⟨X0, A0⟩⟩
  iapply (step_cast m c 0 0 rfl rfl (off6_0_eq c) (off7_0_eq c)) $$ [X0 W0]
  · isplitl [X0]; · iexact X0
    iexact W0
  iintro ⟨X0, O0⟩
  ihave S00 := (Entails.of_eq (own_send m c 0 0 rfl)) $$ O0
  iapply (wpc_ret c)
  iapply Hk
  isplitl [Ho]; · iexact Ho
  isplitl [Zb]; · iexact Zb
  isplitl [B0]; · iexact B0
  isplitl [B1]; · iexact B1
  isplitl [B2]; · iexact B2
  isplitl [Zl0]; · iexact Zl0
  isplitl [A0]; · iexact A0
  isplitl [X0]; · iexact X0
  iexact S00

theorem part4_wp (c : Dev nD) {v5 v8 v22 v25 v36 c1024_i32_61 : BitVec 32} {Q : (PUnit) → sProp 𝕄} :
    iprop(records m K ∗ sendTodo c 0 0 ∗ sendPay m c 0 0 ∗ landAny (peer 0 c) c 0 0 ∗ xvPts c (loadLo c 0) (loadLen 0) (xvFin m c) ∗ ownAny c 1 ∗ owesE c (pays.drop 3))
      ⊢ iprop(((owesE c (pays.drop 4) ∗ pend c (sendIx 0 0) ∗ xvPts c (loadLo c 0) (loadLen 0) (xvFin m c) ∗ sendPay m c 0 1) -∗ Q ⟨⟩)
          -∗ wpc c (k0_part4 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v5 v8 v22 v25 v36 c1024_i32_61) Q) := by
  rw [k0_part4_eq_skeleton]; unfold k0_part4_skel
  simp only [semSignalWord, semWaitWord, Prog.lift, Prog.bind_op, Prog.bind_ret, Prog.pure_eq_ret]
  iintro ⟨#HR, T00, S00, D00, X0, W1, Ho⟩ Hk
  iapply (step_send m K c _ 0 0 (dev4_eq c) (pays.drop 4) rfl rfl rfl rfl (off8_0_eq c)) $$ [T00 S00 D00 Ho]
  · isplitr; · iexact HR
    isplitl [T00]; · iexact T00
    isplitl [S00]; · iexact S00
    isplitl [D00]; · iexact D00
    iexact Ho
  iintro ⟨P00, Ho⟩
  iapply (step_cast m c 1 0 rfl rfl (off6_1_eq c) (off7_1_eq c)) $$ [X0 W1]
  · isplitl [X0]; · iexact X0
    iexact W1
  iintro ⟨X0, O1⟩
  ihave S01 := (Entails.of_eq (own_send m c 1 1 rfl)) $$ O1
  iapply (wpc_ret c)
  iapply Hk
  isplitl [Ho]; · iexact Ho
  isplitl [P00]; · iexact P00
  isplitl [X0]; · iexact X0
  iexact S01

theorem part5_wp (c : Dev nD) {v5 v8 v22 v25 v36 : BitVec 32} {Q : (PUnit) → sProp 𝕄} :
    iprop(records m K ∗ sendTodo c 0 1 ∗ sendPay m c 0 1 ∗ landAny (peer 0 c) c 0 1 ∗ xvPts c (loadLo c 0) (loadLen 0) (xvFin m c) ∗ ownAny c 2 ∗ sendTodo c 0 2 ∗ landAny (peer 0 c) c 0 2 ∗ ownAny c 3 ∗ owesE c (pays.drop 4))
      ⊢ iprop(((owesE c (pays.drop 6) ∗ pend c (sendIx 0 1) ∗ pend c (sendIx 0 2) ∗ xvPts c (loadLo c 0) (loadLen 0) (xvFin m c) ∗ sendPay m c 0 3) -∗ Q ⟨⟩)
          -∗ wpc c (k0_part5 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v5 v8 v22 v25 v36) Q) := by
  rw [k0_part5_eq_skeleton]; unfold k0_part5_skel
  simp only [semSignalWord, semWaitWord, Prog.lift, Prog.bind_op, Prog.bind_ret, Prog.pure_eq_ret]
  iintro ⟨#HR, T01, S01, D01, X0, W2, T02, D02, W3, Ho⟩ Hk
  iapply (step_send m K c _ 0 1 (dev5_eq c) (pays.drop 5) rfl rfl rfl rfl (off8_1_eq c)) $$ [T01 S01 D01 Ho]
  · isplitr; · iexact HR
    isplitl [T01]; · iexact T01
    isplitl [S01]; · iexact S01
    isplitl [D01]; · iexact D01
    iexact Ho
  iintro ⟨P01, Ho⟩
  iapply (step_cast m c 2 0 rfl rfl (off9_eq c) (off10_eq c)) $$ [X0 W2]
  · isplitl [X0]; · iexact X0
    iexact W2
  iintro ⟨X0, O2⟩
  ihave S02 := (Entails.of_eq (own_send m c 2 2 rfl)) $$ O2
  iapply (step_send m K c _ 0 2 (dev6_eq c) (pays.drop 6) rfl rfl rfl rfl (off11_eq c)) $$ [T02 S02 D02 Ho]
  · isplitr; · iexact HR
    isplitl [T02]; · iexact T02
    isplitl [S02]; · iexact S02
    isplitl [D02]; · iexact D02
    iexact Ho
  iintro ⟨P02, Ho⟩
  iapply (step_cast m c 3 0 rfl rfl (off12_eq c) (off13_eq c)) $$ [X0 W3]
  · isplitl [X0]; · iexact X0
    iexact W3
  iintro ⟨X0, O3⟩
  ihave S03 := (Entails.of_eq (own_send m c 3 3 rfl)) $$ O3
  iapply (wpc_ret c)
  iapply Hk
  isplitl [Ho]; · iexact Ho
  isplitl [P01]; · iexact P01
  isplitl [P02]; · iexact P02
  isplitl [X0]; · iexact X0
  iexact S03

theorem part6_wp (c : Dev nD) {v5 v8 v22 v35 v36 : BitVec 32} {Q : (PUnit) → sProp 𝕄} :
    iprop(records m K ∗ sendTodo c 0 3 ∗ sendPay m c 0 3 ∗ landAny (peer 0 c) c 0 3 ∗ pend c (loadIx 1) ∗ ownAny c 4 ∗ owesE c (pays.drop 6))
      ⊢ iprop(((owesE c (pays.drop 7) ∗ pend c (sendIx 0 3) ∗ zero c (loadIx 1) ∗ argPts m c (loadLo c 1) (loadLen 1) ∗ xvPts c (loadLo c 1) (loadLen 1) (xvFin m c) ∗ sendPay m c 0 4) -∗ Q ⟨⟩)
          -∗ wpc c (k0_part6 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v5 v8 v22 v35 v36) Q) := by
  rw [k0_part6_eq_skeleton]; unfold k0_part6_skel
  simp only [semSignalWord, semWaitWord, Prog.lift, Prog.bind_op, Prog.bind_ret, Prog.pure_eq_ret]
  iintro ⟨#HR, T03, S03, D03, Lp1, W4, Ho⟩ Hk
  iapply (step_send m K c _ 0 3 (dev7_eq c) (pays.drop 7) rfl rfl rfl rfl (off14_eq c)) $$ [T03 S03 D03 Ho]
  · isplitr; · iexact HR
    isplitl [T03]; · iexact T03
    isplitl [S03]; · iexact S03
    isplitl [D03]; · iexact D03
    iexact Ho
  iintro ⟨P03, Ho⟩
  iapply (step_loaded m K c 1 (pays.drop 7) (by decide) rfl rfl) $$ [Lp1 Ho]
  · isplitr; · iexact HR
    isplitl [Lp1]; · iexact Lp1
    iexact Ho
  unfold loadPay
  iintro ⟨Ho, Zl1, ⟨X1, A1⟩⟩
  iapply (step_cast m c 4 1 rfl rfl (off15_eq c) (off16_eq c)) $$ [X1 W4]
  · isplitl [X1]; · iexact X1
    iexact W4
  iintro ⟨X1, O4⟩
  ihave S04 := (Entails.of_eq (own_send m c 4 4 rfl)) $$ O4
  iapply (wpc_ret c)
  iapply Hk
  isplitl [Ho]; · iexact Ho
  isplitl [P03]; · iexact P03
  isplitl [Zl1]; · iexact Zl1
  isplitl [A1]; · iexact A1
  isplitl [X1]; · iexact X1
  iexact S04

theorem part7_wp (c : Dev nD) {v28 v31 v35 v36 : BitVec 32} {Q : (BitVec 32) → sProp 𝕄} :
    iprop(records m K ∗ sendTodo c 0 4 ∗ sendPay m c 0 4 ∗ landAny (peer 0 c) c 0 4 ∗ pend c (loadIx 2) ∗ ownAny c 5 ∗ pend c (loadIx 3) ∗ ownAny c 6 ∗ pend c (loadIx 4) ∗ ownAny c 7 ∗ owesE c (pays.drop 7))
      ⊢ iprop((∀ w, (owesE c (pays.drop 8) ∗ pend c (sendIx 0 4) ∗ zero c (loadIx 2) ∗ argPts m c (loadLo c 2) (loadLen 2) ∗ xvPts c (loadLo c 2) (loadLen 2) (xvFin m c) ∗ ownPts m c 5 ∗ zero c (loadIx 3) ∗ argPts m c (loadLo c 3) (loadLen 3) ∗ xvPts c (loadLo c 3) (loadLen 3) (xvFin m c) ∗ ownPts m c 6 ∗ zero c (loadIx 4) ∗ argPts m c (loadLo c 4) (loadLen 4) ∗ xvPts c (loadLo c 4) (loadLen 4) (xvFin m c) ∗ ownPts m c 7) -∗ Q w)
          -∗ wpc c (k0_part7 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v28 v31 v35 v36) Q) := by
  rw [k0_part7_eq_skeleton]; unfold k0_part7_skel
  simp only [semSignalWord, semWaitWord, Prog.lift, Prog.bind_op, Prog.bind_ret, Prog.pure_eq_ret]
  iintro ⟨#HR, T04, S04, D04, Lp2, W5, Lp3, W6, Lp4, W7, Ho⟩ Hk
  iapply (step_send m K c _ 0 4 (dev8_eq c) (pays.drop 8) rfl rfl rfl rfl (off17_eq c)) $$ [T04 S04 D04 Ho]
  · isplitr; · iexact HR
    isplitl [T04]; · iexact T04
    isplitl [S04]; · iexact S04
    isplitl [D04]; · iexact D04
    iexact Ho
  iintro ⟨P04, Ho⟩
  iapply (step_loaded m K c 2 (pays.drop 8) (by decide) rfl rfl) $$ [Lp2 Ho]
  · isplitr; · iexact HR
    isplitl [Lp2]; · iexact Lp2
    iexact Ho
  unfold loadPay
  iintro ⟨Ho, Zl2, ⟨X2, A2⟩⟩
  iapply (step_cast m c 5 2 rfl rfl (off18_eq c) (off19_eq c)) $$ [X2 W5]
  · isplitl [X2]; · iexact X2
    iexact W5
  iintro ⟨X2, O5⟩
  iapply (step_loaded m K c 3 (pays.drop 8) (by decide) rfl rfl) $$ [Lp3 Ho]
  · isplitr; · iexact HR
    isplitl [Lp3]; · iexact Lp3
    iexact Ho
  unfold loadPay
  iintro ⟨Ho, Zl3, ⟨X3, A3⟩⟩
  iapply (step_cast m c 6 3 rfl rfl (off20_eq c) (off21_eq c)) $$ [X3 W6]
  · isplitl [X3]; · iexact X3
    iexact W6
  iintro ⟨X3, O6⟩
  iapply (step_loaded m K c 4 (pays.drop 8) (by decide) rfl rfl) $$ [Lp4 Ho]
  · isplitr; · iexact HR
    isplitl [Lp4]; · iexact Lp4
    iexact Ho
  unfold loadPay
  iintro ⟨Ho, Zl4, ⟨X4, A4⟩⟩
  iapply (step_cast m c 7 4 rfl rfl (off22_eq c) (off23_eq c)) $$ [X4 W7]
  · isplitl [X4]; · iexact X4
    iexact W7
  iintro ⟨X4, O7⟩
  iapply (wpc_ret c)
  iapply Hk
  isplitl [Ho]; · iexact Ho
  isplitl [P04]; · iexact P04
  isplitl [Zl2]; · iexact Zl2
  isplitl [A2]; · iexact A2
  isplitl [X2]; · iexact X2
  isplitl [O5]; · iexact O5
  isplitl [Zl3]; · iexact Zl3
  isplitl [A3]; · iexact A3
  isplitl [X3]; · iexact X3
  isplitl [O6]; · iexact O6
  isplitl [Zl4]; · iexact Zl4
  isplitl [A4]; · iexact A4
  isplitl [X4]; · iexact X4
  iexact O7

theorem part8_wp (c : Dev nD) {v2 v5 v8 v21 v22 v23 v25 v38 c8_i32_147 : BitVec 32} {Q : (PUnit) → sProp 𝕄} :
    iprop(records m K ∗ pend c (recvIx 0 0) ∗ sendTodo c 1 0 ∗ landAny (peer 1 c) c 1 0 ∗ owesE c (pays.drop 8))
      ⊢ iprop(((owesE c (pays.drop 9) ∗ zero c (recvIx 0 0) ∗ sendPay m c 2 0 ∗ pend c (sendIx 1 0)) -∗ Q ⟨⟩)
          -∗ wpc c (k0_part8 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v8 v21 v22 v23 v25 v38 c8_i32_147) Q) := by
  rw [k0_part8_eq_skeleton]; unfold k0_part8_skel
  simp only [semSignalWord, semWaitWord, Prog.lift, Prog.bind_op, Prog.bind_ret, Prog.pure_eq_ret]
  iintro ⟨#HR, Q00, T10, D10, Ho⟩ Hk
  iapply (step_recv m K c 0 0 (pays.drop 8) (by decide) rfl rfl) $$ [Q00 Ho]
  · isplitr; · iexact HR
    isplitl [Q00]; · iexact Q00
    iexact Ho
  iintro ⟨Ho, Zr00, R00⟩
  ihave HS := (recv_split m c 0 (by decide)) $$ R00
  icases HS with ⟨S10, S20⟩
  iapply (step_send m K c _ 1 0 (dev9_eq c) (pays.drop 9) rfl rfl rfl rfl (off24_0_eq c)) $$ [T10 S10 D10 Ho]
  · isplitr; · iexact HR
    isplitl [T10]; · iexact T10
    isplitl [S10]; · iexact S10
    isplitl [D10]; · iexact D10
    iexact Ho
  iintro ⟨P10, Ho⟩
  iapply (wpc_ret c)
  iapply Hk
  isplitl [Ho]; · iexact Ho
  isplitl [Zr00]; · iexact Zr00
  isplitl [S20]; · iexact S20
  iexact P10

theorem part9_wp (c : Dev nD) {v2 v5 v8 v21 v22 v23 v25 v38 : BitVec 32} {Q : (PUnit) → sProp 𝕄} :
    iprop(records m K ∗ sendTodo c 2 0 ∗ sendPay m c 2 0 ∗ landAny (peer 2 c) c 2 0 ∗ pend c (recvIx 0 1) ∗ sendTodo c 1 1 ∗ landAny (peer 1 c) c 1 1 ∗ owesE c (pays.drop 9))
      ⊢ iprop(((owesE c (pays.drop 11) ∗ pend c (sendIx 2 0) ∗ zero c (recvIx 0 1) ∗ sendPay m c 2 1 ∗ pend c (sendIx 1 1)) -∗ Q ⟨⟩)
          -∗ wpc c (k0_part9 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v8 v21 v22 v23 v25 v38) Q) := by
  rw [k0_part9_eq_skeleton]; unfold k0_part9_skel
  simp only [semSignalWord, semWaitWord, Prog.lift, Prog.bind_op, Prog.bind_ret, Prog.pure_eq_ret]
  iintro ⟨#HR, T20, S20, D20, Q01, T11, D11, Ho⟩ Hk
  iapply (step_send m K c _ 2 0 (dev10_eq c) (pays.drop 10) rfl rfl rfl rfl (off24_0_eqz c)) $$ [T20 S20 D20 Ho]
  · isplitr; · iexact HR
    isplitl [T20]; · iexact T20
    isplitl [S20]; · iexact S20
    isplitl [D20]; · iexact D20
    iexact Ho
  iintro ⟨P20, Ho⟩
  iapply (step_recv m K c 0 1 (pays.drop 10) (by decide) rfl rfl) $$ [Q01 Ho]
  · isplitr; · iexact HR
    isplitl [Q01]; · iexact Q01
    iexact Ho
  iintro ⟨Ho, Zr01, R01⟩
  ihave HS := (recv_split m c 1 (by decide)) $$ R01
  icases HS with ⟨S11, S21⟩
  iapply (step_send m K c _ 1 1 (dev11_eq c) (pays.drop 11) rfl rfl rfl rfl (off24_1_eq c)) $$ [T11 S11 D11 Ho]
  · isplitr; · iexact HR
    isplitl [T11]; · iexact T11
    isplitl [S11]; · iexact S11
    isplitl [D11]; · iexact D11
    iexact Ho
  iintro ⟨P11, Ho⟩
  iapply (wpc_ret c)
  iapply Hk
  isplitl [Ho]; · iexact Ho
  isplitl [P20]; · iexact P20
  isplitl [Zr01]; · iexact Zr01
  isplitl [S21]; · iexact S21
  iexact P11

theorem part10_wp (c : Dev nD) {v2 v5 v8 v22 v23 v25 v38 : BitVec 32} {Q : (BitVec 32) → sProp 𝕄} :
    iprop(records m K ∗ sendTodo c 2 1 ∗ sendPay m c 2 1 ∗ landAny (peer 2 c) c 2 1 ∗ pend c (recvIx 0 2) ∗ sendTodo c 1 2 ∗ landAny (peer 1 c) c 1 2 ∗ owesE c (pays.drop 11))
      ⊢ iprop((∀ w, (owesE c (pays.drop 13) ∗ pend c (sendIx 2 1) ∗ zero c (recvIx 0 2) ∗ sendPay m c 2 2 ∗ pend c (sendIx 1 2)) -∗ Q w)
          -∗ wpc c (k0_part10 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v8 v22 v23 v25 v38) Q) := by
  rw [k0_part10_eq_skeleton]; unfold k0_part10_skel
  simp only [semSignalWord, semWaitWord, Prog.lift, Prog.bind_op, Prog.bind_ret, Prog.pure_eq_ret]
  iintro ⟨#HR, T21, S21, D21, Q02, T12, D12, Ho⟩ Hk
  iapply (step_send m K c _ 2 1 (dev12_eq c) (pays.drop 12) rfl rfl rfl rfl (off24_1_eqz c)) $$ [T21 S21 D21 Ho]
  · isplitr; · iexact HR
    isplitl [T21]; · iexact T21
    isplitl [S21]; · iexact S21
    isplitl [D21]; · iexact D21
    iexact Ho
  iintro ⟨P21, Ho⟩
  iapply (step_recv m K c 0 2 (pays.drop 12) (by decide) rfl rfl) $$ [Q02 Ho]
  · isplitr; · iexact HR
    isplitl [Q02]; · iexact Q02
    iexact Ho
  iintro ⟨Ho, Zr02, R02⟩
  ihave HS := (recv_split m c 2 (by decide)) $$ R02
  icases HS with ⟨S12, S22⟩
  iapply (step_send m K c _ 1 2 (dev13_eq c) (pays.drop 13) rfl rfl rfl rfl (off25_eq c)) $$ [T12 S12 D12 Ho]
  · isplitr; · iexact HR
    isplitl [T12]; · iexact T12
    isplitl [S12]; · iexact S12
    isplitl [D12]; · iexact D12
    iexact Ho
  iintro ⟨P12, Ho⟩
  iapply (wpc_ret c)
  iapply Hk
  isplitl [Ho]; · iexact Ho
  isplitl [P21]; · iexact P21
  isplitl [Zr02]; · iexact Zr02
  isplitl [S22]; · iexact S22
  iexact P12

theorem part11_wp (c : Dev nD) {v2 v5 v8 v21 v22 v23 v25 v38 v331 : BitVec 32} {Q : (PUnit) → sProp 𝕄} :
    iprop(records m K ∗ sendTodo c 2 2 ∗ sendPay m c 2 2 ∗ landAny (peer 2 c) c 2 2 ∗ pend c (recvIx 0 3) ∗ sendTodo c 1 3 ∗ landAny (peer 1 c) c 1 3 ∗ owesE c (pays.drop 13))
      ⊢ iprop(((owesE c (pays.drop 15) ∗ pend c (sendIx 2 2) ∗ zero c (recvIx 0 3) ∗ sendPay m c 2 3 ∗ pend c (sendIx 1 3)) -∗ Q ⟨⟩)
          -∗ wpc c (k0_part11 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v8 v21 v22 v23 v25 v38 v331) Q) := by
  rw [k0_part11_eq_skeleton]; unfold k0_part11_skel
  simp only [semSignalWord, semWaitWord, Prog.lift, Prog.bind_op, Prog.bind_ret, Prog.pure_eq_ret]
  iintro ⟨#HR, T22, S22, D22, Q03, T13, D13, Ho⟩ Hk
  iapply (step_send m K c _ 2 2 (dev14_eq c) (pays.drop 14) rfl rfl rfl rfl (off25_eqz c)) $$ [T22 S22 D22 Ho]
  · isplitr; · iexact HR
    isplitl [T22]; · iexact T22
    isplitl [S22]; · iexact S22
    isplitl [D22]; · iexact D22
    iexact Ho
  iintro ⟨P22, Ho⟩
  iapply (step_recv m K c 0 3 (pays.drop 14) (by decide) rfl rfl) $$ [Q03 Ho]
  · isplitr; · iexact HR
    isplitl [Q03]; · iexact Q03
    iexact Ho
  iintro ⟨Ho, Zr03, R03⟩
  ihave HS := (recv_split m c 3 (by decide)) $$ R03
  icases HS with ⟨S13, S23⟩
  iapply (step_send m K c _ 1 3 (dev15_eq c) (pays.drop 15) rfl rfl rfl rfl (off26_eq c)) $$ [T13 S13 D13 Ho]
  · isplitr; · iexact HR
    isplitl [T13]; · iexact T13
    isplitl [S13]; · iexact S13
    isplitl [D13]; · iexact D13
    iexact Ho
  iintro ⟨P13, Ho⟩
  iapply (wpc_ret c)
  iapply Hk
  isplitl [Ho]; · iexact Ho
  isplitl [P22]; · iexact P22
  isplitl [Zr03]; · iexact Zr03
  isplitl [S23]; · iexact S23
  iexact P13

theorem part12_wp (c : Dev nD) {v2 v5 v8 v21 v23 v31 v38 : BitVec 32} {Q : (PUnit) → sProp 𝕄} :
    iprop(records m K ∗ sendTodo c 2 3 ∗ sendPay m c 2 3 ∗ landAny (peer 2 c) c 2 3 ∗ pend c (recvIx 2 2) ∗ owesE c (pays.drop 15))
      ⊢ iprop(((owesE c (pays.drop 16) ∗ pend c (sendIx 2 3) ∗ zero c (recvIx 2 2) ∗ sendPay m c 1 4) -∗ Q ⟨⟩)
          -∗ wpc c (k0_part12 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v8 v21 v23 v31 v38) Q) := by
  rw [k0_part12_eq_skeleton]; unfold k0_part12_skel
  simp only [semSignalWord, semWaitWord, Prog.lift, Prog.bind_op, Prog.bind_ret, Prog.pure_eq_ret]
  iintro ⟨#HR, T23, S23, D23, Q22, Ho⟩ Hk
  iapply (step_send m K c _ 2 3 (dev16_eq c) (pays.drop 16) rfl rfl rfl rfl (off26_eqz c)) $$ [T23 S23 D23 Ho]
  · isplitr; · iexact HR
    isplitl [T23]; · iexact T23
    isplitl [S23]; · iexact S23
    isplitl [D23]; · iexact D23
    iexact Ho
  iintro ⟨P23, Ho⟩
  iapply (step_recv m K c 2 2 (pays.drop 16) (by decide) rfl rfl) $$ [Q22 Ho]
  · isplitr; · iexact HR
    isplitl [Q22]; · iexact Q22
    iexact Ho
  iintro ⟨Ho, Zr22, R22⟩
  ihave S14 := (recv_y4 m c) $$ R22
  iapply (wpc_ret c)
  iapply Hk
  isplitl [Ho]; · iexact Ho
  isplitl [P23]; · iexact P23
  isplitl [Zr22]; · iexact Zr22
  iexact S14

theorem part13_wp (c : Dev nD) {v2 v5 v8 v21 v22 v23 v28 v38 : BitVec 32} {Q : (BitVec 32) → sProp 𝕄} :
    iprop(records m K ∗ sendTodo c 1 4 ∗ sendPay m c 1 4 ∗ landAny (peer 1 c) c 1 4 ∗ pend c (recvIx 1 3) ∗ sendTodo c 2 4 ∗ landAny (peer 2 c) c 2 4 ∗ owesE c (pays.drop 16))
      ⊢ iprop((∀ w, (owesE c (pays.drop 18) ∗ pend c (sendIx 1 4) ∗ zero c (recvIx 1 3) ∗ pend c (sendIx 2 4)) -∗ Q w)
          -∗ wpc c (k0_part13 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v8 v21 v22 v23 v28 v38) Q) := by
  rw [k0_part13_eq_skeleton]; unfold k0_part13_skel
  simp only [semSignalWord, semWaitWord, Prog.lift, Prog.bind_op, Prog.bind_ret, Prog.pure_eq_ret]
  iintro ⟨#HR, T14, S14, D14, Q13, T24, D24, Ho⟩ Hk
  iapply (step_send m K c _ 1 4 (dev17_eq c) (pays.drop 17) rfl rfl rfl rfl (off27_eq c)) $$ [T14 S14 D14 Ho]
  · isplitr; · iexact HR
    isplitl [T14]; · iexact T14
    isplitl [S14]; · iexact S14
    isplitl [D14]; · iexact D14
    iexact Ho
  iintro ⟨P14, Ho⟩
  iapply (step_recv m K c 1 3 (pays.drop 17) (by decide) rfl rfl) $$ [Q13 Ho]
  · isplitr; · iexact HR
    isplitl [Q13]; · iexact Q13
    iexact Ho
  iintro ⟨Ho, Zr13, R13⟩
  ihave S24 := (recv_z4 m c) $$ R13
  iapply (step_send m K c _ 2 4 (dev18_eq c) (pays.drop 18) rfl rfl rfl rfl (off28_eq c)) $$ [T24 S24 D24 Ho]
  · isplitr; · iexact HR
    isplitl [T24]; · iexact T24
    isplitl [S24]; · iexact S24
    isplitl [D24]; · iexact D24
    iexact Ho
  iintro ⟨P24, Ho⟩
  iapply (wpc_ret c)
  iapply Hk
  isplitl [Ho]; · iexact Ho
  isplitl [P14]; · iexact P14
  isplitl [Zr13]; · iexact Zr13
  iexact P24

theorem part14_wp (c : Dev nD) {v2 v8 v23 v432 : BitVec 32} {Q : (PUnit) → sProp 𝕄} :
    iprop(records m K ∗ pend c (recvIx 0 4) ∗ pend c (recvIx 1 0) ∗ pend c (recvIx 1 1) ∗ owesE c (pays.drop 18))
      ⊢ iprop(((owesE c (pays.drop 18) ∗ zero c (recvIx 0 4) ∗ recvPay m c 0 4 ∗ zero c (recvIx 1 0) ∗ recvPay m c 1 0 ∗ zero c (recvIx 1 1) ∗ recvPay m c 1 1) -∗ Q ⟨⟩)
          -∗ wpc c (k0_part14 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v8 v23 v432) Q) := by
  rw [k0_part14_eq_skeleton]; unfold k0_part14_skel
  simp only [semSignalWord, semWaitWord, Prog.lift, Prog.bind_op, Prog.bind_ret, Prog.pure_eq_ret]
  iintro ⟨#HR, Q04, Q10, Q11, Ho⟩ Hk
  iapply (step_recv m K c 0 4 (pays.drop 18) (by decide) rfl rfl) $$ [Q04 Ho]
  · isplitr; · iexact HR
    isplitl [Q04]; · iexact Q04
    iexact Ho
  iintro ⟨Ho, Zr04, R04⟩
  iapply (step_recv m K c 1 0 (pays.drop 18) (by decide) rfl rfl) $$ [Q10 Ho]
  · isplitr; · iexact HR
    isplitl [Q10]; · iexact Q10
    iexact Ho
  iintro ⟨Ho, Zr10, R10⟩
  iapply (step_recv m K c 1 1 (pays.drop 18) (by decide) rfl rfl) $$ [Q11 Ho]
  · isplitr; · iexact HR
    isplitl [Q11]; · iexact Q11
    iexact Ho
  iintro ⟨Ho, Zr11, R11⟩
  iapply (wpc_ret c)
  iapply Hk
  isplitl [Ho]; · iexact Ho
  isplitl [Zr04]; · iexact Zr04
  isplitl [R04]; · iexact R04
  isplitl [Zr10]; · iexact Zr10
  isplitl [R10]; · iexact R10
  isplitl [Zr11]; · iexact Zr11
  iexact R11

theorem part15_wp (c : Dev nD) {v2 v5 v8 v21 v23 : BitVec 32} {Q : (PUnit) → sProp 𝕄} :
    iprop(records m K ∗ pend c (recvIx 1 2) ∗ pend c (recvIx 1 4) ∗ pend c (recvIx 2 0) ∗ owesE c (pays.drop 18))
      ⊢ iprop(((owesE c (pays.drop 18) ∗ zero c (recvIx 1 2) ∗ recvPay m c 1 2 ∗ zero c (recvIx 1 4) ∗ recvPay m c 1 4 ∗ zero c (recvIx 2 0) ∗ recvPay m c 2 0) -∗ Q ⟨⟩)
          -∗ wpc c (k0_part15 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v8 v21 v23) Q) := by
  rw [k0_part15_eq_skeleton]; unfold k0_part15_skel
  simp only [semSignalWord, semWaitWord, Prog.lift, Prog.bind_op, Prog.bind_ret, Prog.pure_eq_ret]
  iintro ⟨#HR, Q12, Q14, Q20, Ho⟩ Hk
  iapply (step_recv m K c 1 2 (pays.drop 18) (by decide) rfl rfl) $$ [Q12 Ho]
  · isplitr; · iexact HR
    isplitl [Q12]; · iexact Q12
    iexact Ho
  iintro ⟨Ho, Zr12, R12⟩
  iapply (step_recv m K c 1 4 (pays.drop 18) (by decide) rfl rfl) $$ [Q14 Ho]
  · isplitr; · iexact HR
    isplitl [Q14]; · iexact Q14
    iexact Ho
  iintro ⟨Ho, Zr14, R14⟩
  iapply (step_recv m K c 2 0 (pays.drop 18) (by decide) rfl rfl) $$ [Q20 Ho]
  · isplitr; · iexact HR
    isplitl [Q20]; · iexact Q20
    iexact Ho
  iintro ⟨Ho, Zr20, R20⟩
  iapply (wpc_ret c)
  iapply Hk
  isplitl [Ho]; · iexact Ho
  isplitl [Zr12]; · iexact Zr12
  isplitl [R12]; · iexact R12
  isplitl [Zr14]; · iexact Zr14
  isplitl [R14]; · iexact R14
  isplitl [Zr20]; · iexact Zr20
  iexact R20

theorem part16_wp (c : Dev nD) {v2 v5 v21 : BitVec 32} {Q : (PUnit) → sProp 𝕄} :
    iprop(records m K ∗ pend c (recvIx 2 1) ∗ pend c (recvIx 2 3) ∗ pend c (recvIx 2 4) ∗ pend c (sendIx 0 0) ∗ owesE c (pays.drop 18))
      ⊢ iprop(((owesE c (pays.drop 18) ∗ zero c (recvIx 2 1) ∗ recvPay m c 2 1 ∗ zero c (recvIx 2 3) ∗ recvPay m c 2 3 ∗ zero c (recvIx 2 4) ∗ recvPay m c 2 4 ∗ zero c (sendIx 0 0) ∗ sendPay m c 0 0) -∗ Q ⟨⟩)
          -∗ wpc c (k0_part16 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c v2 v5 v21) Q) := by
  rw [k0_part16_eq_skeleton]; unfold k0_part16_skel
  simp only [semSignalWord, semWaitWord, Prog.lift, Prog.bind_op, Prog.bind_ret, Prog.pure_eq_ret]
  iintro ⟨#HR, Q21, Q23, Q24, P00, Ho⟩ Hk
  iapply (step_recv m K c 2 1 (pays.drop 18) (by decide) rfl rfl) $$ [Q21 Ho]
  · isplitr; · iexact HR
    isplitl [Q21]; · iexact Q21
    iexact Ho
  iintro ⟨Ho, Zr21, R21⟩
  iapply (step_recv m K c 2 3 (pays.drop 18) (by decide) rfl rfl) $$ [Q23 Ho]
  · isplitr; · iexact HR
    isplitl [Q23]; · iexact Q23
    iexact Ho
  iintro ⟨Ho, Zr23, R23⟩
  iapply (step_recv m K c 2 4 (pays.drop 18) (by decide) rfl rfl) $$ [Q24 Ho]
  · isplitr; · iexact HR
    isplitl [Q24]; · iexact Q24
    iexact Ho
  iintro ⟨Ho, Zr24, R24⟩
  iapply (step_sent m K c 0 0 rfl rfl) $$ [P00 Ho]
  · isplitr; · iexact HR
    isplitl [P00]; · iexact P00
    iexact Ho
  iintro ⟨Ho, Zs00, S00⟩
  iapply (wpc_ret c)
  iapply Hk
  isplitl [Ho]; · iexact Ho
  isplitl [Zr21]; · iexact Zr21
  isplitl [R21]; · iexact R21
  isplitl [Zr23]; · iexact Zr23
  isplitl [R23]; · iexact R23
  isplitl [Zr24]; · iexact Zr24
  isplitl [R24]; · iexact R24
  isplitl [Zs00]; · iexact Zs00
  iexact S00

theorem part17_wp (c : Dev nD) {Q : (PUnit) → sProp 𝕄} :
    iprop(records m K ∗ pend c (sendIx 1 0) ∗ pend c (sendIx 2 0) ∗ pend c (sendIx 0 1) ∗ pend c (sendIx 1 1) ∗ pend c (sendIx 2 1) ∗ pend c (sendIx 0 2) ∗ owesE c (pays.drop 18))
      ⊢ iprop(((owesE c (pays.drop 18) ∗ zero c (sendIx 1 0) ∗ sendPay m c 1 0 ∗ zero c (sendIx 2 0) ∗ sendPay m c 2 0 ∗ zero c (sendIx 0 1) ∗ sendPay m c 0 1 ∗ zero c (sendIx 1 1) ∗ sendPay m c 1 1 ∗ zero c (sendIx 2 1) ∗ sendPay m c 2 1 ∗ zero c (sendIx 0 2) ∗ sendPay m c 0 2) -∗ Q ⟨⟩)
          -∗ wpc c (k0_part17 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c) Q) := by
  rw [k0_part17_eq_skeleton]; unfold k0_part17_skel
  simp only [semSignalWord, semWaitWord, Prog.lift, Prog.bind_op, Prog.bind_ret, Prog.pure_eq_ret]
  iintro ⟨#HR, P10, P20, P01, P11, P21, P02, Ho⟩ Hk
  iapply (step_sent m K c 1 0 rfl rfl) $$ [P10 Ho]
  · isplitr; · iexact HR
    isplitl [P10]; · iexact P10
    iexact Ho
  iintro ⟨Ho, Zs10, S10⟩
  iapply (step_sent m K c 2 0 rfl rfl) $$ [P20 Ho]
  · isplitr; · iexact HR
    isplitl [P20]; · iexact P20
    iexact Ho
  iintro ⟨Ho, Zs20, S20⟩
  iapply (step_sent m K c 0 1 rfl rfl) $$ [P01 Ho]
  · isplitr; · iexact HR
    isplitl [P01]; · iexact P01
    iexact Ho
  iintro ⟨Ho, Zs01, S01⟩
  iapply (step_sent m K c 1 1 rfl rfl) $$ [P11 Ho]
  · isplitr; · iexact HR
    isplitl [P11]; · iexact P11
    iexact Ho
  iintro ⟨Ho, Zs11, S11⟩
  iapply (step_sent m K c 2 1 rfl rfl) $$ [P21 Ho]
  · isplitr; · iexact HR
    isplitl [P21]; · iexact P21
    iexact Ho
  iintro ⟨Ho, Zs21, S21⟩
  iapply (step_sent m K c 0 2 rfl rfl) $$ [P02 Ho]
  · isplitr; · iexact HR
    isplitl [P02]; · iexact P02
    iexact Ho
  iintro ⟨Ho, Zs02, S02⟩
  iapply (wpc_ret c)
  iapply Hk
  isplitl [Ho]; · iexact Ho
  isplitl [Zs10]; · iexact Zs10
  isplitl [S10]; · iexact S10
  isplitl [Zs20]; · iexact Zs20
  isplitl [S20]; · iexact S20
  isplitl [Zs01]; · iexact Zs01
  isplitl [S01]; · iexact S01
  isplitl [Zs11]; · iexact Zs11
  isplitl [S11]; · iexact S11
  isplitl [Zs21]; · iexact Zs21
  isplitl [S21]; · iexact S21
  isplitl [Zs02]; · iexact Zs02
  iexact S02

theorem part18_wp (c : Dev nD) {Q : (PUnit) → sProp 𝕄} :
    iprop(records m K ∗ pend c (sendIx 1 2) ∗ pend c (sendIx 2 2) ∗ pend c (sendIx 0 3) ∗ pend c (sendIx 1 3) ∗ pend c (sendIx 2 3) ∗ pend c (sendIx 0 4) ∗ owesE c (pays.drop 18))
      ⊢ iprop(((owesE c (pays.drop 18) ∗ zero c (sendIx 1 2) ∗ sendPay m c 1 2 ∗ zero c (sendIx 2 2) ∗ sendPay m c 2 2 ∗ zero c (sendIx 0 3) ∗ sendPay m c 0 3 ∗ zero c (sendIx 1 3) ∗ sendPay m c 1 3 ∗ zero c (sendIx 2 3) ∗ sendPay m c 2 3 ∗ zero c (sendIx 0 4) ∗ sendPay m c 0 4) -∗ Q ⟨⟩)
          -∗ wpc c (k0_part18 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7 c) Q) := by
  rw [k0_part18_eq_skeleton]; unfold k0_part18_skel
  simp only [semSignalWord, semWaitWord, Prog.lift, Prog.bind_op, Prog.bind_ret, Prog.pure_eq_ret]
  iintro ⟨#HR, P12, P22, P03, P13, P23, P04, Ho⟩ Hk
  iapply (step_sent m K c 1 2 rfl rfl) $$ [P12 Ho]
  · isplitr; · iexact HR
    isplitl [P12]; · iexact P12
    iexact Ho
  iintro ⟨Ho, Zs12, S12⟩
  iapply (step_sent m K c 2 2 rfl rfl) $$ [P22 Ho]
  · isplitr; · iexact HR
    isplitl [P22]; · iexact P22
    iexact Ho
  iintro ⟨Ho, Zs22, S22⟩
  iapply (step_sent m K c 0 3 rfl rfl) $$ [P03 Ho]
  · isplitr; · iexact HR
    isplitl [P03]; · iexact P03
    iexact Ho
  iintro ⟨Ho, Zs03, S03⟩
  iapply (step_sent m K c 1 3 rfl rfl) $$ [P13 Ho]
  · isplitr; · iexact HR
    isplitl [P13]; · iexact P13
    iexact Ho
  iintro ⟨Ho, Zs13, S13⟩
  iapply (step_sent m K c 2 3 rfl rfl) $$ [P23 Ho]
  · isplitr; · iexact HR
    isplitl [P23]; · iexact P23
    iexact Ho
  iintro ⟨Ho, Zs23, S23⟩
  iapply (step_sent m K c 0 4 rfl rfl) $$ [P04 Ho]
  · isplitr; · iexact HR
    isplitl [P04]; · iexact P04
    iexact Ho
  iintro ⟨Ho, Zs04, S04⟩
  iapply (wpc_ret c)
  iapply Hk
  isplitl [Ho]; · iexact Ho
  isplitl [Zs12]; · iexact Zs12
  isplitl [S12]; · iexact S12
  isplitl [Zs22]; · iexact Zs22
  isplitl [S22]; · iexact S22
  isplitl [Zs03]; · iexact Zs03
  isplitl [S03]; · iexact S03
  isplitl [Zs13]; · iexact Zs13
  isplitl [S13]; · iexact S13
  isplitl [Zs23]; · iexact Zs23
  isplitl [S23]; · iexact S23
  isplitl [Zs04]; · iexact Zs04
  iexact S04

end Cert.Gather
-- ==== Proof.Body.lean ====
/-
The whole kernel body on one device: its parts in order.
-/
module

public import proofs.«01_k».proof.Proof.Parts

@[expose] public section

set_option maxRecDepth 65536

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 36 → ℕ)

theorem sep3 (Φ : Fin 3 → sProp 𝕄) : bigSep Finset.univ Φ = iprop(Φ 0 ∗ Φ 1 ∗ Φ 2) := by
  rw [bigSep_univ_eq_bigSepL [0, 1, 2] (by decide) (by decide)]; simp only [bigSepL_cons_cons, bigSepL_singleton]; rfl
theorem sep5 (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]; simp only [bigSepL_cons_cons, bigSepL_singleton]; rfl
theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; simp only [bigSepL_cons_cons, bigSepL_singleton]; rfl

theorem recv_join (c : Dev nD) (j : Fin 5) (hj : j ≠ 4) : iprop(sendPay m c 1 j ∗ sendPay m c 2 j) ⊢ recvPay m c 0 j := by
  have hs : shr 1 j = fullShare.left ∧ shr 2 j = fullShare.right :=
    match j, hj with
    | 0, _ => ⟨rfl, rfl⟩ | 1, _ => ⟨rfl, rfl⟩ | 2, _ => ⟨rfl, rfl⟩ | 3, _ => ⟨rfl, rfl⟩ | 4, h => absurd rfl h
  have h1 := lo_y_eq_land c j hj
  have h2 := lo_y_eq_z c j hj
  unfold recvPay sendPay
  rw [hs.1, hs.2]
  refine BI.Entails.trans (BI.sep_mono ?_ ?_) (pointsTo_share (PosShare.mem_left_op_right fullShare)).2
  · exact outPts_at _ _ ⟨h1.1, h1.2⟩
  · exact outPts_at _ _ ⟨h2.1.symm.trans h1.1, h2.2.symm.trans h1.2⟩
theorem send_y4 (c : Dev nD) : sendPay m c 1 4 ⊢ recvPay m c 2 2 := outPts_at _ _ (lo_y4 c)
theorem send_z4 (c : Dev nD) : sendPay m c 2 4 ⊢ recvPay m c 1 3 := outPts_at _ _ (lo_z4 c)

/-- What the body starts with: the loads to do and their rows; the own places; per axis the barrier unit to pay and the
    landing places to give; every transfer to do and every landing to expect; the barrier's three units; what it owes. -/
def bodyIn (c : Dev nD) : sProp 𝕄 :=
  iprop((bigSep Finset.univ fun j : Fin 5 => iprop(loadTodo c j ∗ (∃ f, xvPts c (loadLo c j) (loadLen j) f) ∗ argPts m c (loadLo c j) (loadLen j)))
    ∗ (bigSep Finset.univ fun k : Fin 8 => ownAny c k)
    ∗ (bigSep Finset.univ fun a : Fin 3 => iprop(dutyTok ER (barC (peer a c)) 0 a ∗ barGive (F := F) c a))
    ∗ (bigSep Finset.univ fun a : Fin 3 => bigSep Finset.univ fun j : Fin 5 => iprop(sendTodo c a j ∗ pend c (recvIx a j)))
    ∗ cred (tallyAt (barC c) () 3) ∗ atPos ER (barC c) 0 ∅ 0 ∗ owesE c pays)

/-- What it ends with: nothing owed, every counter at zero, the loads' rows, and every piece of the result at its final
    contents. -/
def bodyOut (c : Dev nD) : sProp 𝕄 :=
  iprop(owesE c [] ∗ semVal (barC c) 0
    ∗ (bigSep Finset.univ fun j : Fin 5 => iprop(zero c (loadIx j) ∗ xvPts c (loadLo c j) (loadLen j) (xvFin m c) ∗ argPts m c (loadLo c j) (loadLen j)))
    ∗ (bigSep Finset.univ fun k : Fin 8 => ownPts m c k)
    ∗ (bigSep Finset.univ fun a : Fin 3 => bigSep Finset.univ fun j : Fin 5 => iprop(zero c (sendIx a j) ∗ zero c (recvIx a j) ∗ recvPay m c a j)))

theorem wpc_bind (c : Dev nD) {α β : Type} {p : Prog (TpuEff nD τ sig (Elt F) Λ₀ .tc) α} {k : α → Prog (TpuEff nD τ sig (Elt F) Λ₀ .tc) β}
    {Q : β → sProp 𝕄} : wpc c p (fun a => wpc c (k a) Q) ⊢ wpc c (p >>= k) Q := Entails.of_eq (wp_bind frame _ _ p k Q).symm

theorem part1_wp (c : Dev nD) {Q : (Σ' (d0 : Dev nD) (v2 : BitVec 32) (v5 : BitVec 32) (v8 : BitVec 32) (v21 : BitVec 32) (v22 : BitVec 32) (v23 : BitVec 32) (v25 : BitVec 32) (v28 : BitVec 32) (v31 : BitVec 32) (v32 : BitVec 32), BitVec 32) → sProp 𝕄} :
    iprop(∀ w2 w5 w8 w21 w22 w23 w25 w28 w31 w32 w34, Q ⟨c, w2, w5, w8, w21, w22, w23, w25, w28, w31, w32, w34⟩)
      ⊢ wpc c (k0_part1 (Memref.whole main_arg0) (Memref.isWhole_whole _) (Memref.whole cc0_stg0_0) (Memref.isWhole_whole _) (Memref.whole cc0_scratch0) (Memref.isWhole_whole _) cc0_scratch1 cc0_scratch2 cc0_scratch3 cc0_scratch4 cc0_scratch5 cc0_scratch6 cc0_scratch7) Q := by
  rw [k0_part1_eq_skeleton]; unfold k0_part1_skel
  simp only [Prog.lift, Prog.bind_op, Prog.bind_ret, Prog.pure_eq_ret]
  show _ ⊢ wp frame (wpE (defs₀ (F := F)) 𝒱₀ (c : Thread nD τ) none) Set.univ (Prog.op .deviceId _) Q
  rw [wp_deviceId]
  iintro H
  iapply (wpc_ret c)
  iapply H

theorem body_wp (c : Dev nD) {Q : PUnit → sProp 𝕄} :
    iprop(records m K ∗ bodyIn m c) ⊢ iprop((bodyOut m c -∗ Q ⟨⟩)
      -∗ wpc c (cc0_body (Memref.whole main_arg0) (Memref.isWhole_whole _) (Memref.whole cc0_stg0_0) (Memref.isWhole_whole _)
          (Memref.whole cc0_scratch0) (Memref.isWhole_whole _) cc0_scratch1 cc0_scratch2 cc0_scratch3 cc0_scratch4 cc0_scratch5 cc0_scratch6 cc0_scratch7) Q) := by
  unfold bodyIn bodyOut
  simp only [sep5, sep8, sep3]
  rw [cc0_body_eq_skeleton]; unfold cc0_body_skel
  iintro ⟨#HR, ⟨⟨Lt0, Lx0, A0⟩, ⟨Lt1, Lx1, A1⟩, ⟨Lt2, Lx2, A2⟩, ⟨Lt3, Lx3, A3⟩, ⟨Lt4, Lx4, A4⟩⟩, ⟨W0, W1, W2, W3, W4, W5, W6, W7⟩, ⟨⟨Bt0, Bl0⟩, ⟨Bt1, Bl1⟩, ⟨Bt2, Bl2⟩⟩, ⟨⟨⟨T00, Q00⟩, ⟨T01, Q01⟩, ⟨T02, Q02⟩, ⟨T03, Q03⟩, ⟨T04, Q04⟩⟩, ⟨⟨T10, Q10⟩, ⟨T11, Q11⟩, ⟨T12, Q12⟩, ⟨T13, Q13⟩, ⟨T14, Q14⟩⟩, ⟨⟨T20, Q20⟩, ⟨T21, Q21⟩, ⟨T22, Q22⟩, ⟨T23, Q23⟩, ⟨T24, Q24⟩⟩⟩, Bc, Ba, Ho⟩ Hk
  iapply (wpc_bind c)
  iapply (part1_wp c)
  iintro %w2 %w5 %w8 %w21 %w22 %w23 %w25 %w28 %w31 %w32 %w34
  iapply (wpc_bind c)
  iapply (part2_wp m K c) $$ [Lt0 Lx0 A0 Lt1 Lx1 A1 Lt2 Lx2 A2 Lt3 Lx3 A3 Lt4 Lx4 A4]
  · isplitr; · iexact HR
    isplitl [Lt0]; · iexact Lt0
    isplitl [Lx0]; · iexact Lx0
    isplitl [A0]; · iexact A0
    isplitl [Lt1]; · iexact Lt1
    isplitl [Lx1]; · iexact Lx1
    isplitl [A1]; · iexact A1
    isplitl [Lt2]; · iexact Lt2
    isplitl [Lx2]; · iexact Lx2
    isplitl [A2]; · iexact A2
    isplitl [Lt3]; · iexact Lt3
    isplitl [Lx3]; · iexact Lx3
    isplitl [A3]; · iexact A3
    isplitl [Lt4]; · iexact Lt4
    isplitl [Lx4]; · iexact Lx4
    iexact A4
  iintro %w35 %w36 %w38 ⟨Lp0, Lp1, Lp2, Lp3, Lp4⟩
  iapply (wpc_bind c)
  iapply (part3_wp m K c) $$ [Bt0 Bl0 Bt1 Bl1 Bt2 Bl2 Bc Ba Lp0 W0 Ho]
  · isplitr; · iexact HR
    isplitl [Bt0]; · iexact Bt0
    isplitl [Bl0]; · iexact Bl0
    isplitl [Bt1]; · iexact Bt1
    isplitl [Bl1]; · iexact Bl1
    isplitl [Bt2]; · iexact Bt2
    isplitl [Bl2]; · iexact Bl2
    isplitl [Bc]; · iexact Bc
    isplitl [Ba]; · iexact Ba
    isplitl [Lp0]; · iexact Lp0
    isplitl [W0]; · iexact W0
    iexact Ho
  iintro %w61 ⟨Ho, Zb, B0, B1, B2, Zl0, A0, X0, S00⟩
  unfold barPay; simp only [sep5]
  icases B0 with ⟨D00, D01, D02, D03, D04⟩
  icases B1 with ⟨D10, D11, D12, D13, D14⟩
  icases B2 with ⟨D20, D21, D22, D23, D24⟩
  iapply (wpc_bind c)
  iapply (part4_wp m K c) $$ [T00 S00 D00 X0 W1 Ho]
  · isplitr; · iexact HR
    isplitl [T00]; · iexact T00
    isplitl [S00]; · iexact S00
    isplitl [D00]; · iexact D00
    isplitl [X0]; · iexact X0
    isplitl [W1]; · iexact W1
    iexact Ho
  iintro ⟨Ho, P00, X0, S01⟩
  iapply (wpc_bind c)
  iapply (part5_wp m K c) $$ [T01 S01 D01 X0 W2 T02 D02 W3 Ho]
  · isplitr; · iexact HR
    isplitl [T01]; · iexact T01
    isplitl [S01]; · iexact S01
    isplitl [D01]; · iexact D01
    isplitl [X0]; · iexact X0
    isplitl [W2]; · iexact W2
    isplitl [T02]; · iexact T02
    isplitl [D02]; · iexact D02
    isplitl [W3]; · iexact W3
    iexact Ho
  iintro ⟨Ho, P01, P02, X0, S03⟩
  iapply (wpc_bind c)
  iapply (part6_wp m K c) $$ [T03 S03 D03 Lp1 W4 Ho]
  · isplitr; · iexact HR
    isplitl [T03]; · iexact T03
    isplitl [S03]; · iexact S03
    isplitl [D03]; · iexact D03
    isplitl [Lp1]; · iexact Lp1
    isplitl [W4]; · iexact W4
    iexact Ho
  iintro ⟨Ho, P03, Zl1, A1, X1, S04⟩
  iapply (wpc_bind c)
  iapply (part7_wp m K c) $$ [T04 S04 D04 Lp2 W5 Lp3 W6 Lp4 W7 Ho]
  · isplitr; · iexact HR
    isplitl [T04]; · iexact T04
    isplitl [S04]; · iexact S04
    isplitl [D04]; · iexact D04
    isplitl [Lp2]; · iexact Lp2
    isplitl [W5]; · iexact W5
    isplitl [Lp3]; · iexact Lp3
    isplitl [W6]; · iexact W6
    isplitl [Lp4]; · iexact Lp4
    isplitl [W7]; · iexact W7
    iexact Ho
  iintro %w147 ⟨Ho, P04, Zl2, A2, X2, O5, Zl3, A3, X3, O6, Zl4, A4, X4, O7⟩
  iapply (wpc_bind c)
  iapply (part8_wp m K c) $$ [Q00 T10 D10 Ho]
  · isplitr; · iexact HR
    isplitl [Q00]; · iexact Q00
    isplitl [T10]; · iexact T10
    isplitl [D10]; · iexact D10
    iexact Ho
  iintro ⟨Ho, Zr00, S20, P10⟩
  iapply (wpc_bind c)
  iapply (part9_wp m K c) $$ [T20 S20 D20 Q01 T11 D11 Ho]
  · isplitr; · iexact HR
    isplitl [T20]; · iexact T20
    isplitl [S20]; · iexact S20
    isplitl [D20]; · iexact D20
    isplitl [Q01]; · iexact Q01
    isplitl [T11]; · iexact T11
    isplitl [D11]; · iexact D11
    iexact Ho
  iintro ⟨Ho, P20, Zr01, S21, P11⟩
  iapply (wpc_bind c)
  iapply (part10_wp m K c) $$ [T21 S21 D21 Q02 T12 D12 Ho]
  · isplitr; · iexact HR
    isplitl [T21]; · iexact T21
    isplitl [S21]; · iexact S21
    isplitl [D21]; · iexact D21
    isplitl [Q02]; · iexact Q02
    isplitl [T12]; · iexact T12
    isplitl [D12]; · iexact D12
    iexact Ho
  iintro %w331 ⟨Ho, P21, Zr02, S22, P12⟩
  iapply (wpc_bind c)
  iapply (part11_wp m K c) $$ [T22 S22 D22 Q03 T13 D13 Ho]
  · isplitr; · iexact HR
    isplitl [T22]; · iexact T22
    isplitl [S22]; · iexact S22
    isplitl [D22]; · iexact D22
    isplitl [Q03]; · iexact Q03
    isplitl [T13]; · iexact T13
    isplitl [D13]; · iexact D13
    iexact Ho
  iintro ⟨Ho, P22, Zr03, S23, P13⟩
  iapply (wpc_bind c)
  iapply (part12_wp m K c) $$ [T23 S23 D23 Q22 Ho]
  · isplitr; · iexact HR
    isplitl [T23]; · iexact T23
    isplitl [S23]; · iexact S23
    isplitl [D23]; · iexact D23
    isplitl [Q22]; · iexact Q22
    iexact Ho
  iintro ⟨Ho, P23, Zr22, S14⟩
  iapply (wpc_bind c)
  iapply (part13_wp m K c) $$ [T14 S14 D14 Q13 T24 D24 Ho]
  · isplitr; · iexact HR
    isplitl [T14]; · iexact T14
    isplitl [S14]; · iexact S14
    isplitl [D14]; · iexact D14
    isplitl [Q13]; · iexact Q13
    isplitl [T24]; · iexact T24
    isplitl [D24]; · iexact D24
    iexact Ho
  iintro %w432 ⟨Ho, P14, Zr13, P24⟩
  iapply (wpc_bind c)
  iapply (part14_wp m K c) $$ [Q04 Q10 Q11 Ho]
  · isplitr; · iexact HR
    isplitl [Q04]; · iexact Q04
    isplitl [Q10]; · iexact Q10
    isplitl [Q11]; · iexact Q11
    iexact Ho
  iintro ⟨Ho, Zr04, R04, Zr10, R10, Zr11, R11⟩
  iapply (wpc_bind c)
  iapply (part15_wp m K c) $$ [Q12 Q14 Q20 Ho]
  · isplitr; · iexact HR
    isplitl [Q12]; · iexact Q12
    isplitl [Q14]; · iexact Q14
    isplitl [Q20]; · iexact Q20
    iexact Ho
  iintro ⟨Ho, Zr12, R12, Zr14, R14, Zr20, R20⟩
  iapply (wpc_bind c)
  iapply (part16_wp m K c) $$ [Q21 Q23 Q24 P00 Ho]
  · isplitr; · iexact HR
    isplitl [Q21]; · iexact Q21
    isplitl [Q23]; · iexact Q23
    isplitl [Q24]; · iexact Q24
    isplitl [P00]; · iexact P00
    iexact Ho
  iintro ⟨Ho, Zr21, R21, Zr23, R23, Zr24, R24, Zs00, S00⟩
  iapply (wpc_bind c)
  iapply (part17_wp m K c) $$ [P10 P20 P01 P11 P21 P02 Ho]
  · isplitr; · iexact HR
    isplitl [P10]; · iexact P10
    isplitl [P20]; · iexact P20
    isplitl [P01]; · iexact P01
    isplitl [P11]; · iexact P11
    isplitl [P21]; · iexact P21
    isplitl [P02]; · iexact P02
    iexact Ho
  iintro ⟨Ho, Zs10, S10, Zs20, S20, Zs01, S01, Zs11, S11, Zs21, S21, Zs02, S02⟩
  iapply (wpc_bind c)
  iapply (part18_wp m K c) $$ [P12 P22 P03 P13 P23 P04 Ho]
  · isplitr; · iexact HR
    isplitl [P12]; · iexact P12
    isplitl [P22]; · iexact P22
    isplitl [P03]; · iexact P03
    isplitl [P13]; · iexact P13
    isplitl [P23]; · iexact P23
    isplitl [P04]; · iexact P04
    iexact Ho
  iintro ⟨Ho, Zs12, S12, Zs22, S22, Zs03, S03, Zs13, S13, Zs23, S23, Zs04, S04⟩
  simp only [Prog.lift, Prog.bind_op, Prog.bind_ret, Prog.pure_eq_ret]
  iapply (step_sent m K c 1 4 rfl rfl) $$ [P14 Ho]
  · isplitr; · iexact HR
    isplitl [P14]; · iexact P14
    iexact Ho
  iintro ⟨Ho, Zs14, S14⟩
  iapply (step_sent m K c 2 4 rfl rfl) $$ [P24 Ho]
  · isplitr; · iexact HR
    isplitl [P24]; · iexact P24
    iexact Ho
  iintro ⟨Ho, Zs24, S24⟩
  iapply (wpc_ret c)
  iapply Hk
  ihave O0 := (Entails.of_eq (own_send m c 0 0 rfl).symm) $$ S00
  ihave O1 := (Entails.of_eq (own_send m c 1 1 rfl).symm) $$ S01
  ihave O2 := (Entails.of_eq (own_send m c 2 2 rfl).symm) $$ S02
  ihave O3 := (Entails.of_eq (own_send m c 3 3 rfl).symm) $$ S03
  ihave O4 := (Entails.of_eq (own_send m c 4 4 rfl).symm) $$ S04
  ihave R13 := (send_z4 m c) $$ S24
  ihave R22 := (send_y4 m c) $$ S14
  ihave R00 := (recv_join m c 0 (by decide)) $$ [S10 S20]
  · isplitl [S10]; · iexact S10
    iexact S20
  ihave R01 := (recv_join m c 1 (by decide)) $$ [S11 S21]
  · isplitl [S11]; · iexact S11
    iexact S21
  ihave R02 := (recv_join m c 2 (by decide)) $$ [S12 S22]
  · isplitl [S12]; · iexact S12
    iexact S22
  ihave R03 := (recv_join m c 3 (by decide)) $$ [S13 S23]
  · isplitl [S13]; · iexact S13
    iexact S23
  isplitl [Ho]
  · iexact Ho
  isplitl [Zb]
  · iexact Zb
  isplitl [Zl0 X0 A0 Zl1 X1 A1 Zl2 X2 A2 Zl3 X3 A3 Zl4 X4 A4]
  · isplitl [Zl0 X0 A0]
    · isplitl [Zl0]
      · iexact Zl0
      isplitl [X0]
      · iexact X0
      iexact A0
    isplitl [Zl1 X1 A1]
    · isplitl [Zl1]
      · iexact Zl1
      isplitl [X1]
      · iexact X1
      iexact A1
    isplitl [Zl2 X2 A2]
    · isplitl [Zl2]
      · iexact Zl2
      isplitl [X2]
      · iexact X2
      iexact A2
    isplitl [Zl3 X3 A3]
    · isplitl [Zl3]
      · iexact Zl3
      isplitl [X3]
      · iexact X3
      iexact A3
    isplitl [Zl4]
    · iexact Zl4
    isplitl [X4]
    · iexact X4
    iexact A4
  isplitl [O0 O1 O2 O3 O4 O5 O6 O7]
  · isplitl [O0]
    · iexact O0
    isplitl [O1]
    · iexact O1
    isplitl [O2]
    · iexact O2
    isplitl [O3]
    · iexact O3
    isplitl [O4]
    · iexact O4
    isplitl [O5]
    · iexact O5
    isplitl [O6]
    · iexact O6
    iexact O7
  isplitl [Zs00 Zr00 R00 Zs01 Zr01 R01 Zs02 Zr02 R02 Zs03 Zr03 R03 Zs04 Zr04 R04]
  · isplitl [Zs00 Zr00 R00]
    · isplitl [Zs00]
      · iexact Zs00
      isplitl [Zr00]
      · iexact Zr00
      iexact R00
    isplitl [Zs01 Zr01 R01]
    · isplitl [Zs01]
      · iexact Zs01
      isplitl [Zr01]
      · iexact Zr01
      iexact R01
    isplitl [Zs02 Zr02 R02]
    · isplitl [Zs02]
      · iexact Zs02
      isplitl [Zr02]
      · iexact Zr02
      iexact R02
    isplitl [Zs03 Zr03 R03]
    · isplitl [Zs03]
      · iexact Zs03
      isplitl [Zr03]
      · iexact Zr03
      iexact R03
    isplitl [Zs04]
    · iexact Zs04
    isplitl [Zr04]
    · iexact Zr04
    iexact R04
  isplitl [Zs10 Zr10 R10 Zs11 Zr11 R11 Zs12 Zr12 R12 Zs13 Zr13 R13 Zs14 Zr14 R14]
  · isplitl [Zs10 Zr10 R10]
    · isplitl [Zs10]
      · iexact Zs10
      isplitl [Zr10]
      · iexact Zr10
      iexact R10
    isplitl [Zs11 Zr11 R11]
    · isplitl [Zs11]
      · iexact Zs11
      isplitl [Zr11]
      · iexact Zr11
      iexact R11
    isplitl [Zs12 Zr12 R12]
    · isplitl [Zs12]
      · iexact Zs12
      isplitl [Zr12]
      · iexact Zr12
      iexact R12
    isplitl [Zs13 Zr13 R13]
    · isplitl [Zs13]
      · iexact Zs13
      isplitl [Zr13]
      · iexact Zr13
      iexact R13
    isplitl [Zs14]
    · iexact Zs14
    isplitl [Zr14]
    · iexact Zr14
    iexact R14
  isplitl [Zs20 Zr20 R20]
  · isplitl [Zs20]
    · iexact Zs20
    isplitl [Zr20]
    · iexact Zr20
    iexact R20
  isplitl [Zs21 Zr21 R21]
  · isplitl [Zs21]
    · iexact Zs21
    isplitl [Zr21]
    · iexact Zr21
    iexact R21
  isplitl [Zs22 Zr22 R22]
  · isplitl [Zs22]
    · iexact Zs22
    isplitl [Zr22]
    · iexact Zr22
    iexact R22
  isplitl [Zs23 Zr23 R23]
  · isplitl [Zs23]
    · iexact Zs23
    isplitl [Zr23]
    · iexact Zr23
    iexact R23
  isplitl [Zs24]
  · iexact Zs24
  isplitl [Zr24]
  · iexact Zr24
  iexact R24

end Cert.Gather
-- ==== Proof.Region.lean ====
/-
The region on one device: its buffers cut into pieces and put together again, what the body starts from and leaves, and
the pipeline's obligation for the body.
-/
module

public import proofs.«01_k».proof.Proof.Body
public import proofs.«01_k».proof.Proof.Gen.KernelIdeal.Launch
public import proofs.«01_k».proof.Proof.Gen.KernelIdeal.Points

@[expose] public section

set_option maxRecDepth 65536

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Buffers and their pieces -/

theorem out_univ (c : Dev nD) : (Finset.univ : Finset S8192x1024.Idx)
    = (Finset.univ : Finset Piece).biUnion fun p => rows 8192 (pieceLo c p) (pieceLen p) := by
  refine (Finset.eq_univ_iff_forall.mpr fun i => ?_).symm
  obtain ⟨p, hp⟩ := piece_cover c (i 0).val (i 0).isLt
  exact Finset.mem_biUnion.mpr ⟨p, Finset.mem_univ _, mem_rows.mpr hp⟩
theorem load_univ (c : Dev nD) : (Finset.univ : Finset S4096x1024.Idx)
    = (Finset.univ : Finset (Fin 5)).biUnion fun j => rows 4096 (loadLo c j) (loadLen j) := by
  refine (Finset.eq_univ_iff_forall.mpr fun i => ?_).symm
  obtain ⟨p, hp⟩ := load_cover c (i 0).val (i 0).isLt
  exact Finset.mem_biUnion.mpr ⟨p, Finset.mem_univ _, mem_rows.mpr hp⟩

/-- The result buffer as the device's own eight pieces and the fifteen that land. -/
theorem out_pieces (c : Dev nD) (f : Buf (Elt F) (outL c)) : (outL c ↦{fullShare} f : sProp 𝕄)
    = iprop((bigSep Finset.univ fun k : Fin 8 => outPts c (4096 * xb c + ownLo c k) (ownLen k) fullShare f)
      ∗ bigSep Finset.univ fun a : Fin 3 => bigSep Finset.univ fun j : Fin 5 => outPts c (lo (peer a c) a j) (len a j) fullShare f) := by
  show (outL c ↦[(Finset.univ : Finset S8192x1024.Idx)]{fullShare} f : sProp 𝕄) = _
  rw [out_univ c, pointsTo_biUnion _ _ fun p _ p' _ h => rows_disjoint (piece_apart c p p' h), bigSep_univ_sum, bigSep_univ_prod]
  rfl
/-- The scratch buffer and the argument as the five loads' rows. -/
theorem xv_pieces (c : Dev nD) (f : Buf (Elt F) (xvL c)) : (xvL c ↦{fullShare} f : sProp 𝕄)
    = bigSep Finset.univ fun j : Fin 5 => xvPts c (loadLo c j) (loadLen j) f := by
  show (xvL c ↦[(Finset.univ : Finset S4096x1024.Idx)]{fullShare} f : sProp 𝕄) = _
  rw [load_univ c, pointsTo_biUnion _ _ fun p _ p' _ h => rows_disjoint (load_apart c p p' h)]
theorem arg_pieces (c : Dev nD) : (argL c ↦{fullShare} m (argL c) : sProp 𝕄)
    = bigSep Finset.univ fun j : Fin 5 => argPts m c (loadLo c j) (loadLen j) := by
  show (argL c ↦[(Finset.univ : Finset S4096x1024.Idx)]{fullShare} m (argL c) : sProp 𝕄) = _
  rw [load_univ c, pointsTo_biUnion _ _ fun p _ p' _ h => rows_disjoint (load_apart c p p' h)]

theorem out_any (c : Dev nD) (a n : ℕ) (f : Buf (Elt F) (outL c)) : outPts c a n fullShare f ⊢ iprop(∃ f, outPts c a n fullShare f) := by
  iintro H; iexists f; iexact H
theorem xv_any (c : Dev nD) (a n : ℕ) (f : Buf (Elt F) (xvL c)) : xvPts c a n f ⊢ iprop(∃ f, xvPts c a n f) := by
  iintro H; iexists f; iexact H

/-! ## What the region starts from and leaves -/

/-- The positions and tokens of a device's transfers. -/
def linear (c : Dev nD) : sProp 𝕄 :=
  iprop((bigSep Finset.univ fun j : Fin 5 => loadTodo c j)
    ∗ (bigSep Finset.univ fun a : Fin 3 => bigSep Finset.univ fun j : Fin 5 => sendTodo c a j)
    ∗ (bigSep Finset.univ fun a : Fin 3 => bigSep Finset.univ fun j : Fin 5 => atPos ER (dmaC c (recvIx a j)) 0 ∅ 0)
    ∗ atPos ER (barC c) 0 ∅ 0
    ∗ bigSep Finset.univ fun a : Fin 3 => dutyTok ER (barC (peer a c)) 0 a)

/-- The credits for what its partners will pay it. -/
def credits (c : Dev nD) : sProp 𝕄 :=
  iprop((bigSep Finset.univ fun a : Fin 3 => bigSep Finset.univ fun j : Fin 5 => cred (tallyAt (dmaC c (recvIx a j)) () (dmaAmt (recvIx a j))))
    ∗ cred (tallyAt (barC c) () 3))

def start (c : Dev nD) : sProp 𝕄 :=
  iprop((∃ K, records m K) ∗ linear (F := F) c ∗ credits (F := F) c ∗ (argL c ↦{fullShare} m (argL c)))

/-- A device's counters, all at zero. -/
def zeros (c : Dev nD) : sProp 𝕄 :=
  iprop(semVal (barC c) 0 ∗ (bigSep Finset.univ fun j : Fin 5 => zero c (loadIx j))
    ∗ (bigSep Finset.univ fun a : Fin 3 => bigSep Finset.univ fun j : Fin 5 => zero c (sendIx a j))
    ∗ (bigSep Finset.univ fun a : Fin 3 => bigSep Finset.univ fun j : Fin 5 => zero c (recvIx a j)))

def Φ₀ (c : Dev nD) : sProp 𝕄 := iprop(start m c ∗ ∃ f, xvL c ↦{fullShare} f)
def Φ₁ (c : Dev nD) : sProp 𝕄 := iprop(zeros (F := F) c ∗ (argL c ↦{fullShare} m (argL c)) ∗ ∃ f, xvL c ↦{fullShare} f)

def dats (_ : Fin 1) (c : Dev nD) : Dat τ (Elt F) Unit ℕ UU ℕ cfg0 c where
  A w := m ((cfg0.win w).arr.view.loc (c : Thread nD τ))
  after w _ := match w with
    | ⟨0, _⟩ => fin m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

theorem body_start (c : Dev nD) (f : Buf (Elt F) (outL c)) :
    iprop(linear (F := F) c ∗ credits (F := F) c ∗ (argL c ↦{fullShare} m (argL c)) ∗ (∃ g, xvL c ↦{fullShare} g) ∗ (outL c ↦{fullShare} f) ∗ owesE c pays)
      ⊢ bodyIn m c := by
  unfold linear credits bodyIn
  rw [arg_pieces, out_pieces]
  iintro ⟨⟨Hl, Hs, Hr, Hb, Ht⟩, ⟨Hcr, Hcb⟩, Ha, ⟨%g, Hx⟩, ⟨Hown, Hland⟩, Ho⟩
  ihave Hx := (Entails.of_eq (xv_pieces c g)) $$ Hx
  isplitl [Hl Ha Hx]
  · rw [bigSep_sep', bigSep_sep']
    isplitl [Hl]; · iexact Hl
    isplitl [Hx]
    · iapply (show (bigSep Finset.univ fun j : Fin 5 => xvPts c (loadLo c j) (loadLen j) g : sProp 𝕄)
        ⊢ bigSep Finset.univ fun j : Fin 5 => iprop(∃ f, xvPts c (loadLo c j) (loadLen j) f) from
          bigSep_mono fun j _ => xv_any c _ _ g)
      iexact Hx
    iexact Ha
  isplitl [Hown]
  · iapply (show (bigSep Finset.univ fun k : Fin 8 => outPts c (4096 * xb c + ownLo c k) (ownLen k) fullShare f : sProp 𝕄)
      ⊢ bigSep Finset.univ fun k : Fin 8 => ownAny c k from bigSep_mono fun k _ => out_any c _ _ f)
    iexact Hown
  isplitl [Ht Hland]
  · rw [bigSep_sep']
    isplitl [Ht]; · iexact Ht
    iapply (show (bigSep Finset.univ fun a : Fin 3 => bigSep Finset.univ fun j : Fin 5 => outPts c (lo (peer a c) a j) (len a j) fullShare f : sProp 𝕄)
      ⊢ bigSep Finset.univ fun a : Fin 3 => barGive c a from
        bigSep_mono fun a _ => by unfold barGive; exact bigSep_mono fun j _ => by unfold landAny; exact out_any c _ _ f)
    iexact Hland
  isplitl [Hs Hcr Hr]
  · simp only [bigSep_sep', pend]
    isplitl [Hs]; · iexact Hs
    isplitl [Hcr]; · iexact Hcr
    iexact Hr
  isplitl [Hcb]; · iexact Hcb
  isplitl [Hb]; · iexact Hb
  iexact Ho

theorem body_end (c : Dev nD) :
    bodyOut m c ⊢ iprop(owesE c [] ∗ Φ₁ m c ∗ (outL c ↦{fullShare} fin m c)) := by
  unfold bodyOut Φ₁ zeros
  simp only [bigSep_sep']
  rw [out_pieces, arg_pieces]
  iintro ⟨Ho, Hb, ⟨Hzl, Hx, Ha⟩, Hown, Hzs, Hzr, Hr⟩
  isplitl [Ho]; · iexact Ho
  isplitl [Hb Hzl Hx Ha Hzs Hzr]
  · isplitl [Hb Hzl Hzs Hzr]
    · isplitl [Hb]; · iexact Hb
      isplitl [Hzl]; · iexact Hzl
      isplitl [Hzs]; · iexact Hzs
      iexact Hzr
    isplitl [Ha]; · iexact Ha
    iexists (xvFin m c); rw [xv_pieces]; iexact Hx
  isplitl [Hown]; · iexact Hown
  iexact Hr

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole, at given contents. -/
abbrev stg (c : Dev nD) (X : (cc0_stg0_0 : Ref sig .tc).ty.Contents (Elt F)) : sProp 𝕄 := iprop(∃ f : Buf (Elt F) (outL c), ⌜f = X⌝ ∗ (outL c ↦{fullShare} f))

def regionIn (c : Dev nD) : sProp 𝕄 :=
  iprop(Φ₀ m c ∗ (dats m 0 c).owesAt () t₀.castSucc ∗ (∃ d, stg c ((dats m 0 c).before (0 : Fin 1) t₀ d)))
def regionOut (c : Dev nD) : sProp 𝕄 :=
  iprop(Φ₁ m c ∗ (dats m 0 c).owesAt () t₀.succ ∗ stg c (fin m c))

theorem region_body (c : Dev nD) : regionIn m c ⊢ wpc c
    (cc0_body (Memref.whole main_arg0) (Memref.isWhole_whole _) (Memref.whole cc0_stg0_0) (Memref.isWhole_whole _)
      (Memref.whole cc0_scratch0) (Memref.isWhole_whole _) cc0_scratch1 cc0_scratch2 cc0_scratch3 cc0_scratch4 cc0_scratch5 cc0_scratch6 cc0_scratch7)
    (fun _ => regionOut m c) := by
  unfold regionIn regionOut Φ₀ start
  iintro ⟨⟨⟨⟨%K, #HR⟩, Hl, Hc, Ha⟩, Hx⟩, Ho, ⟨%d, %f, -, Hout⟩⟩
  ihave Ho := (show (dats m 0 c).owesAt () t₀.castSucc ⊢ (owesE c pays : sProp 𝕄) from by
    unfold owesE
    iintro ⟨%W, -, Ho⟩
    iexists W; iexact Ho) $$ Ho
  iapply (body_wp m K c) $$ [Hl Hc Ha Hx Hout Ho]
  · isplitr; · iexact HR
    iapply (body_start m c f)
    isplitl [Hl]; · iexact Hl
    isplitl [Hc]; · iexact Hc
    isplitl [Ha]; · iexact Ha
    isplitl [Hx]; · iexact Hx
    isplitl [Hout]; · iexact Hout
    iexact Ho
  iintro H
  ihave H := (body_end m c) $$ H
  icases H with ⟨Ho, HP, Hout⟩
  isplitl [HP]; · iexact HP
  isplitl [Ho]
  · iapply (show (owesE c [] : sProp 𝕄) ⊢ (dats m 0 c).owesAt () t₀.succ from by
      unfold owesE
      iintro ⟨%W, Ho⟩
      iexists W
      isplitr; · ipureintro; exact fun _ _ => Or.inl trivial
      iexact Ho)
    iexact Ho
  iexists (fin m c)
  isplitr; · ipureintro; rfl
  iexact Hout

/-- The library's body obligation on core `c`. -/
theorem body_obligation (c : Dev nD) : BodyObligation (dats (F := F) m 0 c) (defs₀ (F := F)) 𝒱₀ () Set.univ := fun t => by
  rw [fin_N t]
  rw [show ∀ Φ : Fin cfg0.W → sProp 𝕄, bigSep Finset.univ Φ = iprop(Φ (0 : Fin 1)) from fun Φ => bigSep_W0 Φ,
    show ∀ Φ : Fin cfg0.W → sProp 𝕄, bigSep Finset.univ Φ = iprop(Φ (0 : Fin 1)) from fun Φ => bigSep_W0 Φ]
  simp only [owns_whole_eq]
  exact region_body m c

end Cert.Gather
-- ==== Proof.Launch.lean ====
/-
The launch: the ghost state minted for the machine and dealt to the devices, each payment's token going to the device that
pays it; the credits for what the partners owe; and the run of the whole program.
-/
module

public import proofs.«01_k».proof.Proof.Region
public import proofs.«01_k».proof.Proof.Gen.KernelIdeal.Launch
public import proofs.«01_k».proof.Proof.Gen.KernelIdeal.Points

@[expose] public section

set_option maxRecDepth 65536

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## A device's cells, by role -/

theorem sep_star (P Q : sProp 𝕄) : (BI.sep P Q : sProp 𝕄) = iprop(P ∗ Q) := rfl

theorem star_assoc (P Q R : sProp 𝕄) : iprop((P ∗ Q) ∗ R) = iprop(P ∗ Q ∗ R) := by
  refine BI.Entails.antisymm (show iprop((P ∗ Q) ∗ R) ⊢ iprop(P ∗ Q ∗ R) from ?_) (show iprop(P ∗ Q ∗ R) ⊢ iprop((P ∗ Q) ∗ R) from ?_)
  · iintro ⟨⟨A, B⟩, C⟩
    isplitl [A]; · iexact A
    isplitl [B]; · iexact B
    iexact C
  · iintro ⟨A, B, C⟩
    isplitl [A B]
    · isplitl [A]; · iexact A
      iexact B
    iexact C

theorem split36 (Ψ : Fin 36 → sProp 𝕄) : bigSep Finset.univ Ψ
    = iprop(Ψ 0 ∗ (bigSep Finset.univ fun j : Fin 5 => Ψ (loadIx j))
      ∗ (bigSep Finset.univ fun a : Fin 3 => bigSep Finset.univ fun j : Fin 5 => Ψ (sendIx a j))
      ∗ (bigSep Finset.univ fun a : Fin 3 => bigSep Finset.univ fun j : Fin 5 => Ψ (recvIx a j))) := by
  rw [bigSep_univ_eq_bigSepL [0, 1, 2, 3, 4, 5, 6, 7, 8, 9, 10, 16, 17, 18, 19, 20, 26, 27, 28, 29, 30, 11, 12, 13, 14, 15, 21, 22, 23, 24, 25, 31, 32, 33, 34, 35] (by decide) (by decide)]
  simp only [bigSepL_cons_cons, bigSepL_singleton, sep3, sep5, sep_star, star_assoc]
  rfl

/-- The kernel's own semaphores: every DMA semaphore but the pipeline's. -/
abbrev osem (i : Fin 35) : SemLoc sig := .dma (i.succ : Fin 36)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by
  intro k k' h
  unfold csem at h
  split at h <;> split at h
  · exact (‹k = 0›).trans (‹k' = 0›).symm
  · cases h
  · cases h
  · exact SemLoc.dma.inj h

theorem kcell_injective : Function.Injective (kcell : Dev nD × Fin 36 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A duty token per cell and axis. -/
abbrev tokOf (x : Dev nD × (Fin 36 × Fin 3)) : GSem nD τ sig × ℕ × Fin 3 := (kcell (x.1, x.2.1), 0, x.2.2)
theorem tokOf_injective : Function.Injective tokOf := by
  rintro ⟨c, k, d⟩ ⟨c', k', d'⟩ h
  have h1 := kcell_injective (congrArg Prod.fst h)
  have h2 : d = d' := congrArg (fun x => x.2.2) h
  have h3 : c = c' := congrArg Prod.fst h1
  have h4 : k = k' := congrArg Prod.snd h1
  rw [h2, h3, h4]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of a device's own cells, as minted. -/
def minted (c : Dev nD) : sProp 𝕄 :=
  bigSep Finset.univ fun k : Fin 36 => bigSep Finset.univ fun d : Fin 3 => dutyTok ER (kcell (c, k)) 0 d

def positions (c : Dev nD) : sProp 𝕄 := bigSep Finset.univ fun k : Fin 36 => atPos ER (kcell (c, k)) 0 ∅ 0

/-- What the launch deals device `c`. -/
def G (c : Dev nD) : sProp 𝕄 :=
  iprop((bigSep Finset.univ fun k : Fin 36 => roundState ER (Rd m) (kcell (c, k)) 0)
    ∗ positions (F := F) c ∗ (bigSep Finset.univ fun k : Fin 36 => reached ER (kcell (c, k)) 0) ∗ minted (F := F) c)

/-- What the global step makes of it. -/
def G' (c : Dev nD) : sProp 𝕄 :=
  iprop(∃ K : Dev nD × Fin 36 → ℕ, (bigSep Finset.univ fun ck : Dev nD × Fin 36 => cellInv ER (Rd m) (K ck) (kcell ck))
    ∗ (bigSep Finset.univ fun ck : Dev nD × Fin 36 => reached ER (kcell ck) 0) ∗ linear (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 36 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions; simp only [bigSep_sep']
  isplitl [Hst']; · iexact Hst'
  isplitl [Hat']; · iexact Hat'
  isplitl [Hr']; · iexact Hr'
  iexact Htok'

/-! ## The semaphores -/

theorem unscopedSems0_eq (c : Dev nD) : (unscopedSems0 c : sProp 𝕄) = semVal (barC c) 0 := by
  unfold unscopedSems0; rw [bigSep_eq_bigSepL_of_eq [SemLoc.reg barS] (by decide) (by decide)]; rfl

/-- The barrier's counter with the kernel's own is the counters of all cells. -/
theorem sems_eq (c : Dev nD) :
    iprop(semVal (barC c) 0 ∗ Pipeline.ownSems0 (Ix := Unit) (Name := ℕ) (U := UU) (Lvl := ℕ) (Val := Elt F) (τ := τ) osem c)
      = (bigSep Finset.univ fun k : Fin 36 => semVal (kcell (c, k)) 0 : sProp 𝕄) := by
  unfold Pipeline.ownSems0
  rw [Fin.univ_succ, Finset.cons_eq_insert, bigSep_insert (by simp), bigSep_map]
  rfl

theorem zeros_eq (c : Dev nD) : (zeros c : sProp 𝕄) = bigSep Finset.univ fun k : Fin 36 => semVal (kcell (c, k)) 0 := by
  rw [split36]; unfold zeros; rfl

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ positions (F := F) c ∗ (bigSep Finset.univ fun k : Fin 36 => reached ER (kcell (c, k)) 0) ∗ minted (F := F) c) := by
  unfold G
  rw [unscopedSems0_eq]
  iintro ⟨Hos, Hus, Hst, Hat, Hr, Htok⟩
  ihave Hv := (Entails.of_eq (sems_eq (F := F) c)) $$ [Hos Hus]
  · isplitl [Hus]; · iexact Hus
    iexact Hos
  imod (show iprop((bigSep Finset.univ fun k : Fin 36 => semVal (kcell (c, k)) 0) ∗ bigSep Finset.univ fun k : Fin 36 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hr]; · iexact Hr
  iexact Htok

/-- The tokens of a device's own cells that some payment uses; and the tokens of a device's own payments. -/
def ownToks (c : Dev nD) : sProp 𝕄 :=
  iprop((bigSep Finset.univ fun a : Fin 3 => dutyTok ER (barC c) 0 a)
    ∗ (bigSep Finset.univ fun j : Fin 5 => dutyTok ER (dmaC c (loadIx j)) 0 (0 : Fin 3))
    ∗ (bigSep Finset.univ fun a : Fin 3 => bigSep Finset.univ fun j : Fin 5 => dutyTok ER (dmaC c (sendIx a j)) 0 (0 : Fin 3))
    ∗ (bigSep Finset.univ fun a : Fin 3 => bigSep Finset.univ fun j : Fin 5 => dutyTok ER (dmaC c (recvIx a j)) 0 (0 : Fin 3)))
def payToks (c : Dev nD) : sProp 𝕄 :=
  iprop((bigSep Finset.univ fun a : Fin 3 => dutyTok ER (barC (peer a c)) 0 a)
    ∗ (bigSep Finset.univ fun j : Fin 5 => dutyTok ER (dmaC c (loadIx j)) 0 (0 : Fin 3))
    ∗ (bigSep Finset.univ fun a : Fin 3 => bigSep Finset.univ fun j : Fin 5 => dutyTok ER (dmaC c (sendIx a j)) 0 (0 : Fin 3))
    ∗ (bigSep Finset.univ fun a : Fin 3 => bigSep Finset.univ fun j : Fin 5 => dutyTok ER (dmaC (peer a c) (recvIx a j)) 0 (0 : Fin 3)))

theorem tok_first (c : Dev nD) {k : Fin 36} (hk : k ≠ 0) :
    (bigSep Finset.univ fun d : Fin 3 => (dutyTok ER (kcell (c, k)) 0 d : sProp 𝕄)) ⊢ dutyTok ER (dmaC c k) 0 (0 : Fin 3) := by
  rw [← kcell_dma c hk]; exact bigSep_elim (Finset.mem_univ 0)

theorem minted_own (c : Dev nD) : (minted c : sProp 𝕄) ⊢ ownToks c := by
  unfold minted ownToks
  rw [split36]
  exact BI.sep_mono (BI.Entails.refl _) (BI.sep_mono (bigSep_mono fun j _ => tok_first c (loadIx_ne j))
    (BI.sep_mono (bigSep_mono fun a _ => bigSep_mono fun j _ => tok_first c (sendIx_ne a j))
      (bigSep_mono fun a _ => bigSep_mono fun j _ => tok_first c (recvIx_ne a j))))

/-- Every device passed to its partner along each axis. -/
def around : Dev nD × Fin 3 ≃ Dev nD × Fin 3 where
  toFun x := (peer x.2 x.1, x.2)
  invFun x := (peer x.2 x.1, x.2)
  left_inv x := by simp only [peer_peer]
  right_inv x := by simp only [peer_peer]

theorem move (X : Dev nD → Fin 3 → sProp 𝕄) : (bigSep Finset.univ fun c => bigSep Finset.univ fun a => X c a)
    = bigSep Finset.univ fun c => bigSep Finset.univ fun a => X (peer a c) a := by
  rw [← bigSep_univ_prod (fun x : Dev nD × Fin 3 => X x.1 x.2), bigSep_univ_equiv around, bigSep_univ_prod]
  rfl

theorem toks_around : (bigSep Finset.univ fun c : Dev nD => (ownToks c : sProp 𝕄)) = bigSep Finset.univ fun c : Dev nD => payToks c := by
  unfold ownToks payToks
  rw [bigSep_sep', bigSep_sep', bigSep_sep', bigSep_sep', bigSep_sep', bigSep_sep',
    move (fun c a => dutyTok ER (barC c) 0 a), move (fun c a => bigSep Finset.univ fun j : Fin 5 => dutyTok ER (dmaC c (recvIx a j)) 0 (0 : Fin 3))]

theorem linear_intro (c : Dev nD) : iprop(positions (F := F) c ∗ payToks (F := F) c) ⊢ (linear c : sProp 𝕄) := by
  unfold positions payToks linear
  rw [split36]
  simp only [loadTodo, sendTodo, bigSep_sep', kcell_dma c (loadIx_ne _), kcell_dma c (sendIx_ne _ _), kcell_dma c (recvIx_ne _ _), kcell_bar]
  iintro ⟨⟨Pb, Pl, Ps, Pr⟩, Tb, Tl, Ts, Tr⟩
  isplitl [Pl Tl]
  · isplitl [Tl]; · iexact Tl
    iexact Pl
  isplitl [Ps Ts Tr]
  · isplitl [Ts]; · iexact Ts
    isplitl [Tr]; · iexact Tr
    iexact Ps
  isplitl [Pr]; · iexact Pr
  isplitl [Pb]; · iexact Pb
  iexact Tb

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ positions (F := F) c ∗ (bigSep Finset.univ fun k : Fin 36 => reached ER (kcell (c, k)) 0) ∗ minted (F := F) c) : sProp 𝕄)
      ⊢ bigSep Finset.univ (G' m) := by
  rw [bigSep_sep', bigSep_sep', bigSep_sep', ← bigSep_univ_prod (fun ck : Dev nD × Fin 36 => iprop(∃ κ : ℕ, cellInv ER (Rd m) κ (kcell ck))),
    ← bigSep_univ_prod (fun ck : Dev nD × Fin 36 => (reached ER (kcell ck) 0 : sProp 𝕄))]
  iintro ⟨HI, Hat, #HR, Htok⟩
  ihave HK := (BI.bigSep_exists_pi Finset.univ (fun (ck : Dev nD × Fin 36) (κ : ℕ) => (cellInv ER (Rd m) κ (kcell ck) : sProp 𝕄))) $$ HI
  icases HK with ⟨%K, #HI⟩
  ihave Htk := (show (bigSep Finset.univ fun c : Dev nD => (minted c : sProp 𝕄)) ⊢ bigSep Finset.univ fun c : Dev nD => payToks c from
    (bigSep_mono fun c _ => minted_own c).trans (Entails.of_eq toks_around)) $$ Htok
  iapply (with_persistent (R := iprop((bigSep Finset.univ fun ck : Dev nD × Fin 36 => cellInv ER (Rd m) (K ck) (kcell ck))
      ∗ (bigSep Finset.univ fun ck : Dev nD × Fin 36 => reached ER (kcell ck) 0)))
    (Φ := fun c => iprop(positions (F := F) c ∗ payToks (F := F) c)) fun c _ => show _ ⊢ G' m c from by
      unfold G'
      iintro ⟨⟨#HI, #HR⟩, H⟩
      iexists K
      isplitr; · iexact HI
      isplitr; · iexact HR
      iapply (linear_intro c); iexact H)
  isplitr
  · isplitr; · iexact HI
    iexact HR
  rw [bigSep_sep']
  isplitl [Hat]; · iexact Hat
  iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device's partners owe it, in the order they pay. -/
def due (c : Dev nD) : List Pay → CellTallies nD τ sig Unit
  | [] => 0
  | p :: l => due c l + tallyAt (payCell c p) () (payAmt p)

theorem due_ne {c : Dev nD} {l : List Pay} {g : GSem nD τ sig} (h : due c l g ≠ 0) : g.1 = (c : Thread nD τ) := by
  induction l with
  | nil => exact absurd rfl h
  | cons p l ih =>
    by_cases hp : g = payCell c p
    · rw [hp]
    · refine ih fun h' => h ?_
      unfold due; rw [Pi.add_apply, h', tallyAt_ne_cell hp, add_zero]

/-- The partner along an axis, as a permutation of the devices. -/
def peerE (a : Fin 3) : Dev nD ≃ Dev nD := ⟨peer a, peer a, peer_peer a, peer_peer a⟩

theorem owe_due (l : List Pay) : (∑ d, owe d l) = ∑ d, due d l := by
  induction l with
  | nil => rfl
  | cons p l ih =>
    unfold owe due
    rw [Finset.sum_add_distrib, Finset.sum_add_distrib, ih]
    exact congrArg _ ((peerE p.1).sum_comp fun d => (tallyAt (payCell d p) () (payAmt p) : CellTallies nD τ sig Unit))

theorem cred_due (c : Dev nD) (l : List Pay) :
    (cred (due c l) : sProp 𝕄) ⊢ bigSepL l fun p => cred (tallyAt (payCell c p) () (payAmt p)) := by
  induction l with
  | nil => unfold due; rw [cred_zero]; exact BI.Entails.refl _
  | cons p l ih =>
    unfold due
    refine (cred_add _ _).1.trans ?_
    cases l with
    | nil =>
      rw [bigSepL_singleton]; unfold due; rw [cred_zero]
      iintro ⟨-, H⟩; iexact H
    | cons p' l =>
      rw [bigSepL_cons_cons, sep_star]
      iintro ⟨Hl, Hp⟩
      isplitl [Hp]; · iexact Hp
      iapply ih; iexact Hl

theorem creds (c : Dev nD) : (Pipeline.launchCred O₀ c : sProp 𝕄) ⊢ credits c := by
  rw [Pipeline.launchCred_of_sum O₀ (fun d => due d pays) (owe_due pays) (fun d g h => due_ne h) c]
  refine (cred_due c pays).trans ?_
  unfold credits
  simp only [pays, bigSepL_cons_cons, bigSepL_singleton, sep_star, sep3, sep5, dmaAmt_recv]
  iintro ⟨B0, B1, B2, R00, R01, R02, R03, R04, R10, R20, R11, R21, R12, R22, R13, R23, R14, R24⟩
  isplitr [B0 B1 B2]
  · isplitl [R00 R01 R02 R03 R04]
    · isplitl [R00]; (iexact R00); isplitl [R01]; (iexact R01); isplitl [R02]; (iexact R02); isplitl [R03]; (iexact R03); iexact R04
    isplitl [R10 R11 R12 R13 R14]
    · isplitl [R10]; (iexact R10); isplitl [R11]; (iexact R11); isplitl [R12]; (iexact R12); isplitl [R13]; (iexact R13); iexact R14
    · isplitl [R20]; (iexact R20); isplitl [R21]; (iexact R21); isplitl [R22]; (iexact R22); isplitl [R23]; (iexact R23); iexact R24
  · ihave H := (cred_add _ _).2 $$ [B0 B1]
    · isplitl [B0]; · iexact B0
      iexact B1
    ihave H := (cred_add _ _).2 $$ [H B2]
    · isplitl [H]; · iexact H
      iexact B2
    iapply (Entails.of_eq (congrArg cred (show tallyAt (payCell c (0, none)) () (payAmt (0, none)) + tallyAt (payCell c (1, none)) () (payAmt (1, none))
        + tallyAt (payCell c (2, none)) () (payAmt (2, none)) = (tallyAt (barC c) () 3 : CellTallies nD τ sig Unit) from by
      show tallyAt (barC c) () 1 + tallyAt (barC c) () 1 + tallyAt (barC c) () 1 = _
      rw [tallyAt_add, tallyAt_add]))) $$ H

/-! ## The theorem's side conditions -/

theorem rest_arg (c : Dev nD) :
    (Pipeline.unscopedRestP Pipeline.Prefetch.none cfg0.spec c (fun b => m ((c : Thread nD τ).loc b)) : sProp 𝕄) ⊢ (argL c ↦{fullShare} m (argL c)) :=
  Entails.of_eq ((Pipeline.unscopedRestP_none _ _ _).trans (unscopedRest0_eq c _))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start records
  iintro ⟨Hu, #Hlev, Hcr, -, ⟨%K, #HI, #HR, Hl⟩⟩
  ihave Hc := (creds (F := F) c) $$ Hcr
  imodintro
  isplitl
  · isplitr
    · iexists K
      isplitr; · iexact HI
      isplitr; · iexact HR
      iexact Hlev
    isplitl [Hl]; · iexact Hl
    isplitl [Hc]; · iexact Hc
    iapply (rest_arg m c); iexact Hu
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ (argL c ↦{fullShare} m (argL c))) ∗ Pipeline.ownSems0 osem c ∗ Pipeline.scopedRest cfg0.spec c) := by
  rw [show (dats m 0 c).Φ (Fin.last cfg0.N) = Φ₁ m c from rfl, scopedRest0_eq, unscopedSems0_eq]
  unfold Φ₁
  rw [zeros_eq, ← sems_eq]
  iintro ⟨⟨HB, HO⟩, Ha, Hx⟩
  isplitl [HB Ha]
  · isplitl [HB]; · iexact HB
    iexact Ha
  isplitl [HO]; · iexact HO
  iexact Hx

theorem waits (c : Dev nD) : (levAts L lv : sProp 𝕄) ⊢ Pipeline.cellsWaits cfgs (dats m) () 0 c :=
  Pipeline.cellsWaits_intro cfgs (dats m) () 0 c fun w s t => by
    have hs : ∀ (w : Fin cfg0.W) (s : Fin (cfg0.win w).nbuf), (cfg0.win w).sem s = (0 : Fin 36) := by decide
    rcases t with ⟨_ | _, ht⟩
    · exact (mayWait_owe c (.dma 0) pays (by decide)).trans (Entails.of_eq (by rw [← hs w s]; rfl))
    · exact (mayWait_owe c (.dma 0) [] (by decide)).trans (Entails.of_eq (by rw [← hs w s]; rfl))

/-! ## The run -/

/-- What a device hands over at the end: the barrier's counter and its argument. -/
def exitY (c : Dev nD) : sProp 𝕄 := iprop(unscopedSems0 c ∗ (argL c ↦{fullShare} m (argL c)))

def exitQ (c : Dev nD) (s : MemSt nD τ sig (Elt F)) : Prop :=
  (∀ sm : SemLoc sig, sm.isScoped .tc = false → s.sem ((c.tc : Thread nD τ), sm) = 0) ∧ s.mem (argL c) = m (argL c)

theorem exit_read (c : Dev nD) (s' : Phys nD τ sig (Elt F)) :
    iprop(exitY m c ∗ emp ∗ SI s') ⊢ |={Set.univ}=> iprop(⌜exitQ m c s'.mem⌝ ∗ SI s') := by
  have only : ∀ sm : SemLoc sig, sm.isScoped .tc = false → sm = .reg barS := by decide
  unfold exitY exitQ
  rw [unscopedSems0_eq]
  iintro ⟨⟨Hu, Ha⟩, -, HSI⟩
  icombine HSI Ha gives %ha
  icombine HSI Hu gives %hu
  imodintro
  isplitr
  · ipureintro; exact ⟨fun sm h => by rw [only sm h]; exact hu, funext fun i => ha i (Finset.mem_univ i)⟩
  iexact HSI

theorem run_raw : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N)
      ∧ r.2.mem (argL c) = m (argL c)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := exitY m) (Z := fun _ => iprop(emp))
    (hX := start_intro m ρ) (hin := phi0_intro m) (hout := phi1_exit m)
    (QY := exitQ m) (hY := exit_read m)
    (hQ := fun _ h hs => ⟨fun c => ⟨(h c).1, (h c).2.2.2⟩, sem_eq_zero hs fun c => (h c).2.2.1⟩)

end Cert.Gather
-- ==== Proof.Value.lean ====
/-
What the run leaves, read off the result array; the frames of the three programs; and the value claim: every device's result
is the whole array, which is the reference's argument and result.
-/
module

public import proofs.«01_k».proof.Proof.Launch
public import proofs.«01_k».proof.Proof.Gen.KernelIdeal.Launch
public import proofs.«01_k».proof.Proof.Gen.KernelIdeal.Points
public import proofs.«01_k».proof.Defs
public import proofs.«01_k».proof.Proof.Gen.Kernel
public import proofs.«01_k».proof.Proof.Gen.ReferenceIdeal
public import Idealize.ShloMosaic.Lib.StableHlo.Run
public import Idealize.ShloMosaic.Lib.StableHlo.RunHlo
public import Idealize.ShloMosaic.Lib.Quiescent

@[expose] public section

set_option maxRecDepth 65536

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The run, at the program's buffers -/

/-- The result window's one block is the whole buffer: it ends at what the body left. -/
theorem result_eq (c : Dev nD) : (dats m 0 c).arrAt 0 cfg0.N = fin m c :=
  (dats m 0 c).arrAt_eq_of_after_last 0 t₀ (by decide +kernel) (fin m c) fun _ => rfl

/-- From any memory with zero counters, for any float values: every weakly fair execution ends, with every device's result
    at `fin`, its argument unchanged and every counter zero. -/
theorem run_main : θ_run defs (onTc (τ := τ) (main (F := F))) ⟨m, fun _ => 0, ρ⟩ (fun r =>
    (∀ c : Dev nD, r.2.mem ((c.tc : Thread nD τ).loc main_v1) = fin m c
      ∧ r.2.mem ((c.tc : Thread nD τ).loc main_arg0) = m ((c.tc : Thread nD τ).loc main_arg0)) ∧ r.2.sem = fun _ => 0) :=
  (θ_run defs _ _).mono (fun _ h => ⟨fun c => ⟨((h.1 c).1 0).trans (result_eq m c), (h.1 c).2⟩, h.2⟩) (run_raw m ρ)

/-! ## The frames -/

theorem frame_ideal : Cert.quiescent_KernelIdeal := fun m ρ _ =>
  (θ_run Cert.KernelIdeal.defs _ _).mono (fun _ h => ⟨fun c => (h.1 c).2, h.2⟩) (run_main (F := Ideal) m ρ)

/-- The two programs' bodies are one text. -/
theorem bodies_eq : Cert.Kernel.defs₀ (F := Bits) = Cert.KernelIdeal.defs₀ (F := Bits) :=
  congrArg Defs.onTc (funext fun ℓ => funext fun x => match ℓ, x with
    | ⟨0, _⟩, (t, s) => rfl
    | ⟨_ + 1, h⟩, _ => absurd h (Nat.not_lt.2 (Nat.le_add_left _ _)))
theorem defs_eq : Cert.Kernel.defs (F := Bits) = Cert.KernelIdeal.defs (F := Bits) := congrArg (Pipeline.defs Cert.Kernel.pcfgs) bodies_eq

/-- The run at bits is the printed kernel's. -/
theorem frame_kernel : Cert.quiescent_Kernel := by
  intro m ρ _
  have h : θ_run (Cert.KernelIdeal.defs (F := Bits)) (onTc (τ := τ) (Cert.KernelIdeal.main (F := Bits))) ⟨m, fun _ => 0, ρ⟩ (fun r =>
      (∀ c : Dev nD, r.2.mem ((c.tc : Thread nD τ).loc main_arg0) = m ((c.tc : Thread nD τ).loc main_arg0)) ∧ r.2.sem = fun _ => 0) :=
    (θ_run Cert.KernelIdeal.defs _ _).mono (fun _ h => ⟨fun c => (h.1 c).2, h.2⟩) (run_main (F := Bits) m ρ)
  rw [defs_eq]
  exact h

/-- The reference does nothing: every buffer ends as it was launched. -/
theorem run_reference (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r =>
      ∀ (d : Dev Cert.ReferenceIdeal.nD) (b : Ref Cert.ReferenceIdeal.sig .tc),
        r.2.mem ((d.tc : Thread Cert.ReferenceIdeal.nD Cert.ReferenceIdeal.τ).loc b) = m' ((d.tc : Thread Cert.ReferenceIdeal.nD Cert.ReferenceIdeal.τ).loc b) :=
  (θ_run Cert.ReferenceIdeal.defs _ _).mono (fun _ h d b => (h d b).trans rfl)
    (StableHlo.run_hlo Cert.ReferenceIdeal.defs Cert.ReferenceIdeal.main (ops := []) (fun _ => StableHlo.IsSeq.nil) (by decide) (by decide)
      (by trivial) (fun _ h => nomatch h) m' ρ')

theorem frame_reference : Cert.quiescent_ReferenceIdeal := fun m ρ _ =>
  (θ_run Cert.ReferenceIdeal.defs _ _).mono (fun r h => ⟨fun c => h c Cert.ReferenceIdeal.main_arg0, sem_eq_zero_of_no_sems (by decide) r.2⟩)
    (run_reference m ρ)

/-! ## The value -/

/-- The device a row's block comes from holds the half of the whole array that has the row. -/
theorem src_mesh : ∀ (c : Dev nD) (b : Fin 128), ((Layout.meshBlock (r := 2) [2, 2, 4] ![[0], []] (src c b.val)) 0).val = b.val / 64 := by
  decide +kernel
theorem mesh_one : ∀ c : Dev nD, ((Layout.meshBlock (r := 2) [2, 2, 4] ![[0], []] c) 1).val = 0 := by decide +kernel

/-- Where the block of the whole array that a row comes from has the row: at the row itself. -/
theorem whole_idx (c : Dev nD) (i : S8192x1024.Idx) (a : Fin 2) :
    ((Layout.meshBlock (r := 2) [2, 2, 4] ![[0], []] (src c ((i 0).val / 64))) a).val * S4096x1024.size a + (argIdx i a).val = (i a).val := by
  have hi : (i 0).val < 8192 := (i 0).isLt
  match a with
  | ⟨0, _⟩ =>
    have h := src_mesh c ⟨(i 0).val / 64, by omega⟩
    calc _ = (i 0).val / 64 / 64 * 4096 + (i 0).val % 4096 := congrArg (· * 4096 + (i 0).val % 4096) h
      _ = (i 0).val := by omega
  | ⟨1, _⟩ =>
    have h := mesh_one (src c ((i 0).val / 64))
    calc _ = 0 * 1024 + (i 1).val := congrArg (· * 1024 + (i 1).val) h
      _ = (i 1).val := by omega

/-- With each device's argument its half of the whole array, every device's result is the whole array. -/
theorem fin_whole (x : S8192x1024.Idx → Elt F .bf16)
    (h : ∀ c : Dev nD, m (argL c) = Layout.blockN ⟨2, ![4096, 1024]⟩ ⟨2, ![8192, 1024]⟩ (Layout.meshBlock [2, 2, 4] ![[0], []] c) x)
    (c : Dev nD) : fin m c = x := by
  funext i
  unfold fin
  rw [h]
  refine congrArg x (funext fun a => Fin.ext ?_)
  exact whole_idx c i a

theorem value : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ hr c => ⟨(hr.1 c).1.trans (fin_whole m _ h c), (hr.1 c).2⟩) (run_main (F := Ideal) m ρ),
    (θ_run Cert.ReferenceIdeal.defs _ _).mono (fun _ hr => ⟨hr 0 Cert.ReferenceIdeal.main_arg0, hr 0 Cert.ReferenceIdeal.main_arg0⟩) (run_reference m' ρ')⟩

end Cert.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gather.frame_kernel, Cert.Gather.frame_ideal, Cert.Gather.frame_reference, trivial, Cert.Gather.value⟩

end Cert.Proof

end
